-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S16384x2048 : Shape := ⟨2, ![16384, 2048]⟩
abbrev S64x256 : Shape := ⟨2, ![64, 256]⟩
abbrev S_ : Shape := ⟨0, ![]⟩
abbrev S16 : Shape := ⟨1, ![16]⟩
abbrev S1x16 : Shape := ⟨2, ![1, 16]⟩

abbrev nBuf : Table → Nat
  | .hbm => 4
  | .local .scVector .vmem => 4
  | _ => 0

abbrev bufTy : (tb : Table) → Fin (nBuf tb) → BufTy
  | .hbm, ⟨0, _⟩ => ⟨S4x4096x2048, .f32⟩
  | .hbm, ⟨1, _⟩ => ⟨S16384x2048, .f32⟩
  | .hbm, ⟨2, _⟩ => ⟨S16384x2048, .f32⟩
  | .hbm, ⟨3, _⟩ => ⟨S4x4096x2048, .f32⟩
  | .local .scVector .vmem, ⟨0, _⟩ => ⟨S64x256, .f32⟩
  | .local .scVector .vmem, ⟨1, _⟩ => ⟨S64x256, .f32⟩
  | .local .scVector .vmem, ⟨2, _⟩ => ⟨S64x256, .f32⟩
  | .local .scVector .vmem, ⟨3, _⟩ => ⟨S64x256, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.muli v1 c1_i32
  let c0_i32 : BitVec 32 := 0#32
  let v3 : BitVec 32 := Scalar.addi v2 c0_i32
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  v31
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.muli v1 c1_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32_5 : BitVec 32 := 1#32
  let v19 : BitVec 32 := Scalar.subi v4 c1_i32_5
  let v20 : BitVec 32 := Scalar.select v18 v19 v4
  let c4096_i32 : BitVec 32 := 4096#32
  let v33 : BitVec 32 := Scalar.muli v20 c4096_i32
  let c0_i32_12 : BitVec 32 := 0#32
  let v34 : BitVec 32 := Scalar.addi v33 c0_i32_12
  v34
def k0_off1 (i : grid0.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v2 : BitVec 32 := Scalar.muli v1 c1_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c8_i32 : BitVec 32 := 8#32
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let v4 : BitVec 32 := Scalar.divsi v3 c8_i32
  let c1_i32_5 : BitVec 32 := 1#32
  let v19 : BitVec 32 := Scalar.subi v4 c1_i32_5
  let v20 : BitVec 32 := Scalar.select v18 v19 v4
  let c4096_i32 : BitVec 32 := 4096#32
  let v33 : BitVec 32 := Scalar.muli v20 c4096_i32
  let v34 : BitVec 32 := Scalar.addi v33 c0_i32_12
  let v35 : BitVec 32 := v34
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  let v32 : BitVec 32 := v31
  ![v35.toNat, v32.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_13 : BitVec 32 := 1#32
  let v38 : BitVec 32 := Scalar.muli v1 c1_i32_13
  let c0_i32_14 : BitVec 32 := 0#32
  let v39 : BitVec 32 := Scalar.addi v38 c0_i32_14
  let c8_i32_22 : BitVec 32 := 8#32
  let c0_i32_23 : BitVec 32 := 0#32
  let v57 : BitVec 1 := Scalar.cmpi .eq c8_i32_22 c0_i32_23
  let c1_i32_24 : BitVec 32 := 1#32
  let v58 : BitVec 32 := Scalar.select v57 c1_i32_24 c8_i32_22
  let v59 : BitVec 32 := Scalar.remsi v39 v58
  let c0_i32_26 : BitVec 32 := 0#32
  let v61 : BitVec 1 := Scalar.cmpi .slt v59 c0_i32_26
  let c0_i32_27 : BitVec 32 := 0#32
  let v62 : BitVec 1 := Scalar.cmpi .slt v58 c0_i32_27
  let v63 : BitVec 1 := Scalar.xori v61 v62
  let c0_i32_25 : BitVec 32 := 0#32
  let v60 : BitVec 1 := Scalar.cmpi .ne v59 c0_i32_25
  let v64 : BitVec 1 := Scalar.andi v63 v60
  let v65 : BitVec 32 := Scalar.addi v59 v58
  let v66 : BitVec 32 := Scalar.select v64 v65 v59
  let c256_i32_28 : BitVec 32 := 256#32
  let v67 : BitVec 32 := Scalar.muli v66 c256_i32_28
  v67
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_13 : BitVec 32 := 1#32
  let v38 : BitVec 32 := Scalar.muli v1 c1_i32_13
  let c0_i32_14 : BitVec 32 := 0#32
  let v39 : BitVec 32 := Scalar.addi v38 c0_i32_14
  let c0_i32_16 : BitVec 32 := 0#32
  let v41 : BitVec 1 := Scalar.cmpi .sgt v39 c0_i32_16
  let v42 : BitVec 32 := Scalar.extui v41
  let c0_i32_17 : BitVec 32 := 0#32
  let v43 : BitVec 1 := Scalar.cmpi .slt v39 c0_i32_17
  let v44 : BitVec 32 := Scalar.extui v43
  let v45 : BitVec 32 := Scalar.subi v42 v44
  let c8_i32_15 : BitVec 32 := 8#32
  let c0_i32_18 : BitVec 32 := 0#32
  let v46 : BitVec 1 := Scalar.cmpi .sgt c8_i32_15 c0_i32_18
  let v47 : BitVec 32 := Scalar.extui v46
  let c0_i32_19 : BitVec 32 := 0#32
  let v48 : BitVec 1 := Scalar.cmpi .slt c8_i32_15 c0_i32_19
  let v49 : BitVec 32 := Scalar.extui v48
  let v50 : BitVec 32 := Scalar.subi v47 v49
  let v51 : BitVec 1 := Scalar.cmpi .ne v45 v50
  let v52 : BitVec 32 := Scalar.remsi v39 c8_i32_15
  let c0_i32_20 : BitVec 32 := 0#32
  let v53 : BitVec 1 := Scalar.cmpi .ne v52 c0_i32_20
  let v54 : BitVec 1 := Scalar.andi v51 v53
  let v40 : BitVec 32 := Scalar.divsi v39 c8_i32_15
  let c1_i32_21 : BitVec 32 := 1#32
  let v55 : BitVec 32 := Scalar.subi v40 c1_i32_21
  let v56 : BitVec 32 := Scalar.select v54 v55 v40
  let c4096_i32_29 : BitVec 32 := 4096#32
  let v69 : BitVec 32 := Scalar.muli v56 c4096_i32_29
  let c64_i32 : BitVec 32 := 64#32
  let v70 : BitVec 32 := Scalar.addi v69 c64_i32
  v70
@[reducible] def k0_t1_loop : Scf.Loop 32 :=
  let c0_i32_45 : BitVec 32 := 0#32
  let c32_i32 : BitVec 32 := 32#32
  let v90 : BitVec 32 := Scalar.addi c0_i32_45 c32_i32
  let c1_i32_46 : BitVec 32 := 1#32
  ⟨c0_i32_45, v90, c1_i32_46⟩
def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_119 : BitVec 32 := 1#32
  let v239 : BitVec 32 := Scalar.muli v1 c1_i32_119
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c0_i32_113 : BitVec 32 := 0#32
  let v223 : BitVec 1 := Scalar.cmpi .sgt v221 c0_i32_113
  let v224 : BitVec 32 := Scalar.extui v223
  let c0_i32_114 : BitVec 32 := 0#32
  let v225 : BitVec 1 := Scalar.cmpi .slt v221 c0_i32_114
  let v226 : BitVec 32 := Scalar.extui v225
  let v227 : BitVec 32 := Scalar.subi v224 v226
  let c64_i32_112 : BitVec 32 := 64#32
  let c0_i32_115 : BitVec 32 := 0#32
  let v228 : BitVec 1 := Scalar.cmpi .sgt c64_i32_112 c0_i32_115
  let v229 : BitVec 32 := Scalar.extui v228
  let c0_i32_116 : BitVec 32 := 0#32
  let v230 : BitVec 1 := Scalar.cmpi .slt c64_i32_112 c0_i32_116
  let v231 : BitVec 32 := Scalar.extui v230
  let v232 : BitVec 32 := Scalar.subi v229 v231
  let v233 : BitVec 1 := Scalar.cmpi .ne v227 v232
  let v234 : BitVec 32 := Scalar.remsi v221 c64_i32_112
  let c0_i32_117 : BitVec 32 := 0#32
  let v235 : BitVec 1 := Scalar.cmpi .ne v234 c0_i32_117
  let v236 : BitVec 1 := Scalar.andi v233 v235
  let v222 : BitVec 32 := Scalar.divsi v221 c64_i32_112
  let c1_i32_118 : BitVec 32 := 1#32
  let v237 : BitVec 32 := Scalar.subi v222 c1_i32_118
  let v238 : BitVec 32 := Scalar.select v236 v237 v222
  let v240 : BitVec 32 := Scalar.addi v239 v238
  let c8_i32_127 : BitVec 32 := 8#32
  let c0_i32_128 : BitVec 32 := 0#32
  let v258 : BitVec 1 := Scalar.cmpi .eq c8_i32_127 c0_i32_128
  let c1_i32_129 : BitVec 32 := 1#32
  let v259 : BitVec 32 := Scalar.select v258 c1_i32_129 c8_i32_127
  let v260 : BitVec 32 := Scalar.remsi v240 v259
  let c0_i32_131 : BitVec 32 := 0#32
  let v262 : BitVec 1 := Scalar.cmpi .slt v260 c0_i32_131
  let c0_i32_132 : BitVec 32 := 0#32
  let v263 : BitVec 1 := Scalar.cmpi .slt v259 c0_i32_132
  let v264 : BitVec 1 := Scalar.xori v262 v263
  let c0_i32_130 : BitVec 32 := 0#32
  let v261 : BitVec 1 := Scalar.cmpi .ne v260 c0_i32_130
  let v265 : BitVec 1 := Scalar.andi v264 v261
  let v266 : BitVec 32 := Scalar.addi v260 v259
  let v267 : BitVec 32 := Scalar.select v265 v266 v260
  let c256_i32_133 : BitVec 32 := 256#32
  let v268 : BitVec 32 := Scalar.muli v267 c256_i32_133
  v268
def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_119 : BitVec 32 := 1#32
  let v239 : BitVec 32 := Scalar.muli v1 c1_i32_119
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c0_i32_113 : BitVec 32 := 0#32
  let v223 : BitVec 1 := Scalar.cmpi .sgt v221 c0_i32_113
  let v224 : BitVec 32 := Scalar.extui v223
  let c0_i32_114 : BitVec 32 := 0#32
  let v225 : BitVec 1 := Scalar.cmpi .slt v221 c0_i32_114
  let v226 : BitVec 32 := Scalar.extui v225
  let v227 : BitVec 32 := Scalar.subi v224 v226
  let c64_i32_112 : BitVec 32 := 64#32
  let c0_i32_115 : BitVec 32 := 0#32
  let v228 : BitVec 1 := Scalar.cmpi .sgt c64_i32_112 c0_i32_115
  let v229 : BitVec 32 := Scalar.extui v228
  let c0_i32_116 : BitVec 32 := 0#32
  let v230 : BitVec 1 := Scalar.cmpi .slt c64_i32_112 c0_i32_116
  let v231 : BitVec 32 := Scalar.extui v230
  let v232 : BitVec 32 := Scalar.subi v229 v231
  let v233 : BitVec 1 := Scalar.cmpi .ne v227 v232
  let v234 : BitVec 32 := Scalar.remsi v221 c64_i32_112
  let c0_i32_117 : BitVec 32 := 0#32
  let v235 : BitVec 1 := Scalar.cmpi .ne v234 c0_i32_117
  let v236 : BitVec 1 := Scalar.andi v233 v235
  let v222 : BitVec 32 := Scalar.divsi v221 c64_i32_112
  let c1_i32_118 : BitVec 32 := 1#32
  let v237 : BitVec 32 := Scalar.subi v222 c1_i32_118
  let v238 : BitVec 32 := Scalar.select v236 v237 v222
  let v240 : BitVec 32 := Scalar.addi v239 v238
  let c0_i32_121 : BitVec 32 := 0#32
  let v242 : BitVec 1 := Scalar.cmpi .sgt v240 c0_i32_121
  let v243 : BitVec 32 := Scalar.extui v242
  let c0_i32_122 : BitVec 32 := 0#32
  let v244 : BitVec 1 := Scalar.cmpi .slt v240 c0_i32_122
  let v245 : BitVec 32 := Scalar.extui v244
  let v246 : BitVec 32 := Scalar.subi v243 v245
  let c8_i32_120 : BitVec 32 := 8#32
  let c0_i32_123 : BitVec 32 := 0#32
  let v247 : BitVec 1 := Scalar.cmpi .sgt c8_i32_120 c0_i32_123
  let v248 : BitVec 32 := Scalar.extui v247
  let c0_i32_124 : BitVec 32 := 0#32
  let v249 : BitVec 1 := Scalar.cmpi .slt c8_i32_120 c0_i32_124
  let v250 : BitVec 32 := Scalar.extui v249
  let v251 : BitVec 32 := Scalar.subi v248 v250
  let v252 : BitVec 1 := Scalar.cmpi .ne v246 v251
  let v253 : BitVec 32 := Scalar.remsi v240 c8_i32_120
  let c0_i32_125 : BitVec 32 := 0#32
  let v254 : BitVec 1 := Scalar.cmpi .ne v253 c0_i32_125
  let v255 : BitVec 1 := Scalar.andi v252 v254
  let v241 : BitVec 32 := Scalar.divsi v240 c8_i32_120
  let c1_i32_126 : BitVec 32 := 1#32
  let v256 : BitVec 32 := Scalar.subi v241 c1_i32_126
  let v257 : BitVec 32 := Scalar.select v255 v256 v241
  let c4096_i32_134 : BitVec 32 := 4096#32
  let v270 : BitVec 32 := Scalar.muli v257 c4096_i32_134
  let c64_i32_135 : BitVec 32 := 64#32
  let c0_i32_136 : BitVec 32 := 0#32
  let v271 : BitVec 1 := Scalar.cmpi .eq c64_i32_135 c0_i32_136
  let c1_i32_137 : BitVec 32 := 1#32
  let v272 : BitVec 32 := Scalar.select v271 c1_i32_137 c64_i32_135
  let v273 : BitVec 32 := Scalar.remsi v221 v272
  let c0_i32_139 : BitVec 32 := 0#32
  let v275 : BitVec 1 := Scalar.cmpi .slt v273 c0_i32_139
  let c0_i32_140 : BitVec 32 := 0#32
  let v276 : BitVec 1 := Scalar.cmpi .slt v272 c0_i32_140
  let v277 : BitVec 1 := Scalar.xori v275 v276
  let c0_i32_138 : BitVec 32 := 0#32
  let v274 : BitVec 1 := Scalar.cmpi .ne v273 c0_i32_138
  let v278 : BitVec 1 := Scalar.andi v277 v274
  let v279 : BitVec 32 := Scalar.addi v273 v272
  let v280 : BitVec 32 := Scalar.select v278 v279 v273
  let c64_i32_141 : BitVec 32 := 64#32
  let v281 : BitVec 32 := Scalar.muli v280 c64_i32_141
  let v282 : BitVec 32 := Scalar.addi v270 v281
  v282
def k0_off2 (i : grid0.Coords) (k0_t1 : Fin k0_t1_loop.trips) (c0_i32_111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_119 : BitVec 32 := 1#32
  let v239 : BitVec 32 := Scalar.muli v1 c1_i32_119
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let v221 : BitVec 32 := Scalar.addi v220 c0_i32_111
  let c0_i32_113 : BitVec 32 := 0#32
  let v223 : BitVec 1 := Scalar.cmpi .sgt v221 c0_i32_113
  let v224 : BitVec 32 := Scalar.extui v223
  let c0_i32_114 : BitVec 32 := 0#32
  let v225 : BitVec 1 := Scalar.cmpi .slt v221 c0_i32_114
  let v226 : BitVec 32 := Scalar.extui v225
  let v227 : BitVec 32 := Scalar.subi v224 v226
  let c64_i32_112 : BitVec 32 := 64#32
  let c0_i32_115 : BitVec 32 := 0#32
  let v228 : BitVec 1 := Scalar.cmpi .sgt c64_i32_112 c0_i32_115
  let v229 : BitVec 32 := Scalar.extui v228
  let c0_i32_116 : BitVec 32 := 0#32
  let v230 : BitVec 1 := Scalar.cmpi .slt c64_i32_112 c0_i32_116
  let v231 : BitVec 32 := Scalar.extui v230
  let v232 : BitVec 32 := Scalar.subi v229 v231
  let v233 : BitVec 1 := Scalar.cmpi .ne v227 v232
  let v234 : BitVec 32 := Scalar.remsi v221 c64_i32_112
  let c0_i32_117 : BitVec 32 := 0#32
  let v235 : BitVec 1 := Scalar.cmpi .ne v234 c0_i32_117
  let v236 : BitVec 1 := Scalar.andi v233 v235
  let v222 : BitVec 32 := Scalar.divsi v221 c64_i32_112
  let c1_i32_118 : BitVec 32 := 1#32
  let v237 : BitVec 32 := Scalar.subi v222 c1_i32_118
  let v238 : BitVec 32 := Scalar.select v236 v237 v222
  let v240 : BitVec 32 := Scalar.addi v239 v238
  let c0_i32_121 : BitVec 32 := 0#32
  let v242 : BitVec 1 := Scalar.cmpi .sgt v240 c0_i32_121
  let v243 : BitVec 32 := Scalar.extui v242
  let c0_i32_122 : BitVec 32 := 0#32
  let v244 : BitVec 1 := Scalar.cmpi .slt v240 c0_i32_122
  let v245 : BitVec 32 := Scalar.extui v244
  let v246 : BitVec 32 := Scalar.subi v243 v245
  let c8_i32_120 : BitVec 32 := 8#32
  let c0_i32_123 : BitVec 32 := 0#32
  let v247 : BitVec 1 := Scalar.cmpi .sgt c8_i32_120 c0_i32_123
  let v248 : BitVec 32 := Scalar.extui v247
  let c0_i32_124 : BitVec 32 := 0#32
  let v249 : BitVec 1 := Scalar.cmpi .slt c8_i32_120 c0_i32_124
  let v250 : BitVec 32 := Scalar.extui v249
  let v251 : BitVec 32 := Scalar.subi v248 v250
  let v252 : BitVec 1 := Scalar.cmpi .ne v246 v251
  let v253 : BitVec 32 := Scalar.remsi v240 c8_i32_120
  let c0_i32_125 : BitVec 32 := 0#32
  let v254 : BitVec 1 := Scalar.cmpi .ne v253 c0_i32_125
  let v255 : BitVec 1 := Scalar.andi v252 v254
  let v241 : BitVec 32 := Scalar.divsi v240 c8_i32_120
  let c1_i32_126 : BitVec 32 := 1#32
  let v256 : BitVec 32 := Scalar.subi v241 c1_i32_126
  let v257 : BitVec 32 := Scalar.select v255 v256 v241
  let c4096_i32_134 : BitVec 32 := 4096#32
  let v270 : BitVec 32 := Scalar.muli v257 c4096_i32_134
  let c64_i32_135 : BitVec 32 := 64#32
  let c0_i32_136 : BitVec 32 := 0#32
  let v271 : BitVec 1 := Scalar.cmpi .eq c64_i32_135 c0_i32_136
  let c1_i32_137 : BitVec 32 := 1#32
  let v272 : BitVec 32 := Scalar.select v271 c1_i32_137 c64_i32_135
  let v273 : BitVec 32 := Scalar.remsi v221 v272
  let c0_i32_139 : BitVec 32 := 0#32
  let v275 : BitVec 1 := Scalar.cmpi .slt v273 c0_i32_139
  let c0_i32_140 : BitVec 32 := 0#32
  let v276 : BitVec 1 := Scalar.cmpi .slt v272 c0_i32_140
  let v277 : BitVec 1 := Scalar.xori v275 v276
  let c0_i32_138 : BitVec 32 := 0#32
  let v274 : BitVec 1 := Scalar.cmpi .ne v273 c0_i32_138
  let v278 : BitVec 1 := Scalar.andi v277 v274
  let v279 : BitVec 32 := Scalar.addi v273 v272
  let v280 : BitVec 32 := Scalar.select v278 v279 v273
  let c64_i32_141 : BitVec 32 := 64#32
  let v281 : BitVec 32 := Scalar.muli v280 c64_i32_141
  let v282 : BitVec 32 := Scalar.addi v270 v281
  let v283 : BitVec 32 := v282
  let c8_i32_127 : BitVec 32 := 8#32
  let c0_i32_128 : BitVec 32 := 0#32
  let v258 : BitVec 1 := Scalar.cmpi .eq c8_i32_127 c0_i32_128
  let c1_i32_129 : BitVec 32 := 1#32
  let v259 : BitVec 32 := Scalar.select v258 c1_i32_129 c8_i32_127
  let v260 : BitVec 32 := Scalar.remsi v240 v259
  let c0_i32_131 : BitVec 32 := 0#32
  let v262 : BitVec 1 := Scalar.cmpi .slt v260 c0_i32_131
  let c0_i32_132 : BitVec 32 := 0#32
  let v263 : BitVec 1 := Scalar.cmpi .slt v259 c0_i32_132
  let v264 : BitVec 1 := Scalar.xori v262 v263
  let c0_i32_130 : BitVec 32 := 0#32
  let v261 : BitVec 1 := Scalar.cmpi .ne v260 c0_i32_130
  let v265 : BitVec 1 := Scalar.andi v264 v261
  let v266 : BitVec 32 := Scalar.addi v260 v259
  let v267 : BitVec 32 := Scalar.select v265 v266 v260
  let c256_i32_133 : BitVec 32 := 256#32
  let v268 : BitVec 32 := Scalar.muli v267 c256_i32_133
  let v269 : BitVec 32 := v268
  ![v283.toNat, v269.toNat]
def k0_cond1 (k0_t1 : Fin k0_t1_loop.trips) : BitVec 1 :=
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c2_i32_142 : BitVec 32 := 2#32
  let v286 : BitVec 1 := Scalar.cmpi .sge v221 c2_i32_142
  let v287 : BitVec 32 := Scalar.extui v286
  let c0_i32_143 : BitVec 32 := 0#32
  let v288 : BitVec 1 := Scalar.cmpi .ne v287 c0_i32_143
  v288

def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_305 : BitVec 32 := 1#32
  let v601 : BitVec 32 := Scalar.muli v1 c1_i32_305
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c0_i32_299 : BitVec 32 := 0#32
  let v585 : BitVec 1 := Scalar.cmpi .sgt v221 c0_i32_299
  let v586 : BitVec 32 := Scalar.extui v585
  let c0_i32_300 : BitVec 32 := 0#32
  let v587 : BitVec 1 := Scalar.cmpi .slt v221 c0_i32_300
  let v588 : BitVec 32 := Scalar.extui v587
  let v589 : BitVec 32 := Scalar.subi v586 v588
  let c64_i32_298 : BitVec 32 := 64#32
  let c0_i32_301 : BitVec 32 := 0#32
  let v590 : BitVec 1 := Scalar.cmpi .sgt c64_i32_298 c0_i32_301
  let v591 : BitVec 32 := Scalar.extui v590
  let c0_i32_302 : BitVec 32 := 0#32
  let v592 : BitVec 1 := Scalar.cmpi .slt c64_i32_298 c0_i32_302
  let v593 : BitVec 32 := Scalar.extui v592
  let v594 : BitVec 32 := Scalar.subi v591 v593
  let v595 : BitVec 1 := Scalar.cmpi .ne v589 v594
  let v596 : BitVec 32 := Scalar.remsi v221 c64_i32_298
  let c0_i32_303 : BitVec 32 := 0#32
  let v597 : BitVec 1 := Scalar.cmpi .ne v596 c0_i32_303
  let v598 : BitVec 1 := Scalar.andi v595 v597
  let v584 : BitVec 32 := Scalar.divsi v221 c64_i32_298
  let c1_i32_304 : BitVec 32 := 1#32
  let v599 : BitVec 32 := Scalar.subi v584 c1_i32_304
  let v600 : BitVec 32 := Scalar.select v598 v599 v584
  let v602 : BitVec 32 := Scalar.addi v601 v600
  let c8_i32_313 : BitVec 32 := 8#32
  let c0_i32_314 : BitVec 32 := 0#32
  let v620 : BitVec 1 := Scalar.cmpi .eq c8_i32_313 c0_i32_314
  let c1_i32_315 : BitVec 32 := 1#32
  let v621 : BitVec 32 := Scalar.select v620 c1_i32_315 c8_i32_313
  let v622 : BitVec 32 := Scalar.remsi v602 v621
  let c0_i32_317 : BitVec 32 := 0#32
  let v624 : BitVec 1 := Scalar.cmpi .slt v622 c0_i32_317
  let c0_i32_318 : BitVec 32 := 0#32
  let v625 : BitVec 1 := Scalar.cmpi .slt v621 c0_i32_318
  let v626 : BitVec 1 := Scalar.xori v624 v625
  let c0_i32_316 : BitVec 32 := 0#32
  let v623 : BitVec 1 := Scalar.cmpi .ne v622 c0_i32_316
  let v627 : BitVec 1 := Scalar.andi v626 v623
  let v628 : BitVec 32 := Scalar.addi v622 v621
  let v629 : BitVec 32 := Scalar.select v627 v628 v622
  let c256_i32_319 : BitVec 32 := 256#32
  let v630 : BitVec 32 := Scalar.muli v629 c256_i32_319
  v630
def k0_mult8 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_305 : BitVec 32 := 1#32
  let v601 : BitVec 32 := Scalar.muli v1 c1_i32_305
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c0_i32_299 : BitVec 32 := 0#32
  let v585 : BitVec 1 := Scalar.cmpi .sgt v221 c0_i32_299
  let v586 : BitVec 32 := Scalar.extui v585
  let c0_i32_300 : BitVec 32 := 0#32
  let v587 : BitVec 1 := Scalar.cmpi .slt v221 c0_i32_300
  let v588 : BitVec 32 := Scalar.extui v587
  let v589 : BitVec 32 := Scalar.subi v586 v588
  let c64_i32_298 : BitVec 32 := 64#32
  let c0_i32_301 : BitVec 32 := 0#32
  let v590 : BitVec 1 := Scalar.cmpi .sgt c64_i32_298 c0_i32_301
  let v591 : BitVec 32 := Scalar.extui v590
  let c0_i32_302 : BitVec 32 := 0#32
  let v592 : BitVec 1 := Scalar.cmpi .slt c64_i32_298 c0_i32_302
  let v593 : BitVec 32 := Scalar.extui v592
  let v594 : BitVec 32 := Scalar.subi v591 v593
  let v595 : BitVec 1 := Scalar.cmpi .ne v589 v594
  let v596 : BitVec 32 := Scalar.remsi v221 c64_i32_298
  let c0_i32_303 : BitVec 32 := 0#32
  let v597 : BitVec 1 := Scalar.cmpi .ne v596 c0_i32_303
  let v598 : BitVec 1 := Scalar.andi v595 v597
  let v584 : BitVec 32 := Scalar.divsi v221 c64_i32_298
  let c1_i32_304 : BitVec 32 := 1#32
  let v599 : BitVec 32 := Scalar.subi v584 c1_i32_304
  let v600 : BitVec 32 := Scalar.select v598 v599 v584
  let v602 : BitVec 32 := Scalar.addi v601 v600
  let c0_i32_307 : BitVec 32 := 0#32
  let v604 : BitVec 1 := Scalar.cmpi .sgt v602 c0_i32_307
  let v605 : BitVec 32 := Scalar.extui v604
  let c0_i32_308 : BitVec 32 := 0#32
  let v606 : BitVec 1 := Scalar.cmpi .slt v602 c0_i32_308
  let v607 : BitVec 32 := Scalar.extui v606
  let v608 : BitVec 32 := Scalar.subi v605 v607
  let c8_i32_306 : BitVec 32 := 8#32
  let c0_i32_309 : BitVec 32 := 0#32
  let v609 : BitVec 1 := Scalar.cmpi .sgt c8_i32_306 c0_i32_309
  let v610 : BitVec 32 := Scalar.extui v609
  let c0_i32_310 : BitVec 32 := 0#32
  let v611 : BitVec 1 := Scalar.cmpi .slt c8_i32_306 c0_i32_310
  let v612 : BitVec 32 := Scalar.extui v611
  let v613 : BitVec 32 := Scalar.subi v610 v612
  let v614 : BitVec 1 := Scalar.cmpi .ne v608 v613
  let v615 : BitVec 32 := Scalar.remsi v602 c8_i32_306
  let c0_i32_311 : BitVec 32 := 0#32
  let v616 : BitVec 1 := Scalar.cmpi .ne v615 c0_i32_311
  let v617 : BitVec 1 := Scalar.andi v614 v616
  let v603 : BitVec 32 := Scalar.divsi v602 c8_i32_306
  let c1_i32_312 : BitVec 32 := 1#32
  let v618 : BitVec 32 := Scalar.subi v603 c1_i32_312
  let v619 : BitVec 32 := Scalar.select v617 v618 v603
  let c4096_i32_320 : BitVec 32 := 4096#32
  let v632 : BitVec 32 := Scalar.muli v619 c4096_i32_320
  let c64_i32_321 : BitVec 32 := 64#32
  let c0_i32_322 : BitVec 32 := 0#32
  let v633 : BitVec 1 := Scalar.cmpi .eq c64_i32_321 c0_i32_322
  let c1_i32_323 : BitVec 32 := 1#32
  let v634 : BitVec 32 := Scalar.select v633 c1_i32_323 c64_i32_321
  let v635 : BitVec 32 := Scalar.remsi v221 v634
  let c0_i32_325 : BitVec 32 := 0#32
  let v637 : BitVec 1 := Scalar.cmpi .slt v635 c0_i32_325
  let c0_i32_326 : BitVec 32 := 0#32
  let v638 : BitVec 1 := Scalar.cmpi .slt v634 c0_i32_326
  let v639 : BitVec 1 := Scalar.xori v637 v638
  let c0_i32_324 : BitVec 32 := 0#32
  let v636 : BitVec 1 := Scalar.cmpi .ne v635 c0_i32_324
  let v640 : BitVec 1 := Scalar.andi v639 v636
  let v641 : BitVec 32 := Scalar.addi v635 v634
  let v642 : BitVec 32 := Scalar.select v640 v641 v635
  let c64_i32_327 : BitVec 32 := 64#32
  let v643 : BitVec 32 := Scalar.muli v642 c64_i32_327
  let v644 : BitVec 32 := Scalar.addi v632 v643
  v644
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_305 : BitVec 32 := 1#32
  let v601 : BitVec 32 := Scalar.muli v1 c1_i32_305
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c0_i32_299 : BitVec 32 := 0#32
  let v585 : BitVec 1 := Scalar.cmpi .sgt v221 c0_i32_299
  let v586 : BitVec 32 := Scalar.extui v585
  let c0_i32_300 : BitVec 32 := 0#32
  let v587 : BitVec 1 := Scalar.cmpi .slt v221 c0_i32_300
  let v588 : BitVec 32 := Scalar.extui v587
  let v589 : BitVec 32 := Scalar.subi v586 v588
  let c64_i32_298 : BitVec 32 := 64#32
  let c0_i32_301 : BitVec 32 := 0#32
  let v590 : BitVec 1 := Scalar.cmpi .sgt c64_i32_298 c0_i32_301
  let v591 : BitVec 32 := Scalar.extui v590
  let c0_i32_302 : BitVec 32 := 0#32
  let v592 : BitVec 1 := Scalar.cmpi .slt c64_i32_298 c0_i32_302
  let v593 : BitVec 32 := Scalar.extui v592
  let v594 : BitVec 32 := Scalar.subi v591 v593
  let v595 : BitVec 1 := Scalar.cmpi .ne v589 v594
  let v596 : BitVec 32 := Scalar.remsi v221 c64_i32_298
  let c0_i32_303 : BitVec 32 := 0#32
  let v597 : BitVec 1 := Scalar.cmpi .ne v596 c0_i32_303
  let v598 : BitVec 1 := Scalar.andi v595 v597
  let v584 : BitVec 32 := Scalar.divsi v221 c64_i32_298
  let c1_i32_304 : BitVec 32 := 1#32
  let v599 : BitVec 32 := Scalar.subi v584 c1_i32_304
  let v600 : BitVec 32 := Scalar.select v598 v599 v584
  let v602 : BitVec 32 := Scalar.addi v601 v600
  let c0_i32_307 : BitVec 32 := 0#32
  let v604 : BitVec 1 := Scalar.cmpi .sgt v602 c0_i32_307
  let v605 : BitVec 32 := Scalar.extui v604
  let c0_i32_308 : BitVec 32 := 0#32
  let v606 : BitVec 1 := Scalar.cmpi .slt v602 c0_i32_308
  let v607 : BitVec 32 := Scalar.extui v606
  let v608 : BitVec 32 := Scalar.subi v605 v607
  let c8_i32_306 : BitVec 32 := 8#32
  let c0_i32_309 : BitVec 32 := 0#32
  let v609 : BitVec 1 := Scalar.cmpi .sgt c8_i32_306 c0_i32_309
  let v610 : BitVec 32 := Scalar.extui v609
  let c0_i32_310 : BitVec 32 := 0#32
  let v611 : BitVec 1 := Scalar.cmpi .slt c8_i32_306 c0_i32_310
  let v612 : BitVec 32 := Scalar.extui v611
  let v613 : BitVec 32 := Scalar.subi v610 v612
  let v614 : BitVec 1 := Scalar.cmpi .ne v608 v613
  let v615 : BitVec 32 := Scalar.remsi v602 c8_i32_306
  let c0_i32_311 : BitVec 32 := 0#32
  let v616 : BitVec 1 := Scalar.cmpi .ne v615 c0_i32_311
  let v617 : BitVec 1 := Scalar.andi v614 v616
  let v603 : BitVec 32 := Scalar.divsi v602 c8_i32_306
  let c1_i32_312 : BitVec 32 := 1#32
  let v618 : BitVec 32 := Scalar.subi v603 c1_i32_312
  let v619 : BitVec 32 := Scalar.select v617 v618 v603
  let c4096_i32_320 : BitVec 32 := 4096#32
  let v632 : BitVec 32 := Scalar.muli v619 c4096_i32_320
  let c64_i32_321 : BitVec 32 := 64#32
  let c0_i32_322 : BitVec 32 := 0#32
  let v633 : BitVec 1 := Scalar.cmpi .eq c64_i32_321 c0_i32_322
  let c1_i32_323 : BitVec 32 := 1#32
  let v634 : BitVec 32 := Scalar.select v633 c1_i32_323 c64_i32_321
  let v635 : BitVec 32 := Scalar.remsi v221 v634
  let c0_i32_325 : BitVec 32 := 0#32
  let v637 : BitVec 1 := Scalar.cmpi .slt v635 c0_i32_325
  let c0_i32_326 : BitVec 32 := 0#32
  let v638 : BitVec 1 := Scalar.cmpi .slt v634 c0_i32_326
  let v639 : BitVec 1 := Scalar.xori v637 v638
  let c0_i32_324 : BitVec 32 := 0#32
  let v636 : BitVec 1 := Scalar.cmpi .ne v635 c0_i32_324
  let v640 : BitVec 1 := Scalar.andi v639 v636
  let v641 : BitVec 32 := Scalar.addi v635 v634
  let v642 : BitVec 32 := Scalar.select v640 v641 v635
  let c64_i32_327 : BitVec 32 := 64#32
  let v643 : BitVec 32 := Scalar.muli v642 c64_i32_327
  let v644 : BitVec 32 := Scalar.addi v632 v643
  let v645 : BitVec 32 := v644
  let c8_i32_313 : BitVec 32 := 8#32
  let c0_i32_314 : BitVec 32 := 0#32
  let v620 : BitVec 1 := Scalar.cmpi .eq c8_i32_313 c0_i32_314
  let c1_i32_315 : BitVec 32 := 1#32
  let v621 : BitVec 32 := Scalar.select v620 c1_i32_315 c8_i32_313
  let v622 : BitVec 32 := Scalar.remsi v602 v621
  let c0_i32_317 : BitVec 32 := 0#32
  let v624 : BitVec 1 := Scalar.cmpi .slt v622 c0_i32_317
  let c0_i32_318 : BitVec 32 := 0#32
  let v625 : BitVec 1 := Scalar.cmpi .slt v621 c0_i32_318
  let v626 : BitVec 1 := Scalar.xori v624 v625
  let c0_i32_316 : BitVec 32 := 0#32
  let v623 : BitVec 1 := Scalar.cmpi .ne v622 c0_i32_316
  let v627 : BitVec 1 := Scalar.andi v626 v623
  let v628 : BitVec 32 := Scalar.addi v622 v621
  let v629 : BitVec 32 := Scalar.select v627 v628 v622
  let c256_i32_319 : BitVec 32 := 256#32
  let v630 : BitVec 32 := Scalar.muli v629 c256_i32_319
  let v631 : BitVec 32 := v630
  ![v645.toNat, v631.toNat]
@[reducible] def k0_t2_loop : Scf.Loop 32 :=
  let c0_i32_167 : BitVec 32 := 0#32
  let c64_i32_168 : BitVec 32 := 64#32
  let v332 : BitVec 32 := Scalar.addi c0_i32_167 c64_i32_168
  let c1_i32_169 : BitVec 32 := 1#32
  ⟨c0_i32_167, v332, c1_i32_169⟩
def k0_off4 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v584 : Index := Scalar.indexCast arg29
  let c0 : Index := 0#32
  ![v584.toNat, 0]
def k0_off5 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v592 : Index := Scalar.indexCast arg29
  let c16 : Index := 16#32
  ![v592.toNat, 16]
def k0_off6 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v600 : Index := Scalar.indexCast arg29
  let c32 : Index := 32#32
  ![v600.toNat, 32]
def k0_off7 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v608 : Index := Scalar.indexCast arg29
  let c48 : Index := 48#32
  ![v608.toNat, 48]
def k0_off8 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v616 : Index := Scalar.indexCast arg29
  let c64 : Index := 64#32
  ![v616.toNat, 64]
def k0_off9 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v624 : Index := Scalar.indexCast arg29
  let c80 : Index := 80#32
  ![v624.toNat, 80]
def k0_off10 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v632 : Index := Scalar.indexCast arg29
  let c96 : Index := 96#32
  ![v632.toNat, 96]
def k0_off11 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v640 : Index := Scalar.indexCast arg29
  let c112 : Index := 112#32
  ![v640.toNat, 112]
def k0_off12 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v648 : Index := Scalar.indexCast arg29
  let c128 : Index := 128#32
  ![v648.toNat, 128]
def k0_off13 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v656 : Index := Scalar.indexCast arg29
  let c144 : Index := 144#32
  ![v656.toNat, 144]
def k0_off14 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v664 : Index := Scalar.indexCast arg29
  let c160 : Index := 160#32
  ![v664.toNat, 160]
def k0_off15 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v672 : Index := Scalar.indexCast arg29
  let c176 : Index := 176#32
  ![v672.toNat, 176]
def k0_off16 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v680 : Index := Scalar.indexCast arg29
  let c192 : Index := 192#32
  ![v680.toNat, 192]
def k0_off17 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v688 : Index := Scalar.indexCast arg29
  let c208 : Index := 208#32
  ![v688.toNat, 208]
def k0_off18 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v696 : Index := Scalar.indexCast arg29
  let c224 : Index := 224#32
  ![v696.toNat, 224]
def k0_off19 (k0_t2 : Fin k0_t2_loop.trips) : Fin 2 → Nat :=
  let c0_i32_167 : BitVec 32 := 0#32
  let c1_i32_169 : BitVec 32 := 1#32
  let arg29 : BitVec 32 := Scf.iv c0_i32_167 c1_i32_169 k0_t2
  let v704 : Index := Scalar.indexCast arg29
  let c240 : Index := 240#32
  ![v704.toNat, 240]
def k0_mult9 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_178 : BitVec 32 := 1#32
  let v351 : BitVec 32 := Scalar.muli v1 c1_i32_178
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c0_i32_172 : BitVec 32 := 0#32
  let v335 : BitVec 1 := Scalar.cmpi .sgt v221 c0_i32_172
  let v336 : BitVec 32 := Scalar.extui v335
  let c0_i32_173 : BitVec 32 := 0#32
  let v337 : BitVec 1 := Scalar.cmpi .slt v221 c0_i32_173
  let v338 : BitVec 32 := Scalar.extui v337
  let v339 : BitVec 32 := Scalar.subi v336 v338
  let c64_i32_171 : BitVec 32 := 64#32
  let c0_i32_174 : BitVec 32 := 0#32
  let v340 : BitVec 1 := Scalar.cmpi .sgt c64_i32_171 c0_i32_174
  let v341 : BitVec 32 := Scalar.extui v340
  let c0_i32_175 : BitVec 32 := 0#32
  let v342 : BitVec 1 := Scalar.cmpi .slt c64_i32_171 c0_i32_175
  let v343 : BitVec 32 := Scalar.extui v342
  let v344 : BitVec 32 := Scalar.subi v341 v343
  let v345 : BitVec 1 := Scalar.cmpi .ne v339 v344
  let v346 : BitVec 32 := Scalar.remsi v221 c64_i32_171
  let c0_i32_176 : BitVec 32 := 0#32
  let v347 : BitVec 1 := Scalar.cmpi .ne v346 c0_i32_176
  let v348 : BitVec 1 := Scalar.andi v345 v347
  let v334 : BitVec 32 := Scalar.divsi v221 c64_i32_171
  let c1_i32_177 : BitVec 32 := 1#32
  let v349 : BitVec 32 := Scalar.subi v334 c1_i32_177
  let v350 : BitVec 32 := Scalar.select v348 v349 v334
  let v352 : BitVec 32 := Scalar.addi v351 v350
  let c8_i32_186 : BitVec 32 := 8#32
  let c0_i32_187 : BitVec 32 := 0#32
  let v370 : BitVec 1 := Scalar.cmpi .eq c8_i32_186 c0_i32_187
  let c1_i32_188 : BitVec 32 := 1#32
  let v371 : BitVec 32 := Scalar.select v370 c1_i32_188 c8_i32_186
  let v372 : BitVec 32 := Scalar.remsi v352 v371
  let c0_i32_190 : BitVec 32 := 0#32
  let v374 : BitVec 1 := Scalar.cmpi .slt v372 c0_i32_190
  let c0_i32_191 : BitVec 32 := 0#32
  let v375 : BitVec 1 := Scalar.cmpi .slt v371 c0_i32_191
  let v376 : BitVec 1 := Scalar.xori v374 v375
  let c0_i32_189 : BitVec 32 := 0#32
  let v373 : BitVec 1 := Scalar.cmpi .ne v372 c0_i32_189
  let v377 : BitVec 1 := Scalar.andi v376 v373
  let v378 : BitVec 32 := Scalar.addi v372 v371
  let v379 : BitVec 32 := Scalar.select v377 v378 v372
  let c256_i32_192 : BitVec 32 := 256#32
  let v380 : BitVec 32 := Scalar.muli v379 c256_i32_192
  v380
def k0_mult10 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_178 : BitVec 32 := 1#32
  let v351 : BitVec 32 := Scalar.muli v1 c1_i32_178
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c0_i32_172 : BitVec 32 := 0#32
  let v335 : BitVec 1 := Scalar.cmpi .sgt v221 c0_i32_172
  let v336 : BitVec 32 := Scalar.extui v335
  let c0_i32_173 : BitVec 32 := 0#32
  let v337 : BitVec 1 := Scalar.cmpi .slt v221 c0_i32_173
  let v338 : BitVec 32 := Scalar.extui v337
  let v339 : BitVec 32 := Scalar.subi v336 v338
  let c64_i32_171 : BitVec 32 := 64#32
  let c0_i32_174 : BitVec 32 := 0#32
  let v340 : BitVec 1 := Scalar.cmpi .sgt c64_i32_171 c0_i32_174
  let v341 : BitVec 32 := Scalar.extui v340
  let c0_i32_175 : BitVec 32 := 0#32
  let v342 : BitVec 1 := Scalar.cmpi .slt c64_i32_171 c0_i32_175
  let v343 : BitVec 32 := Scalar.extui v342
  let v344 : BitVec 32 := Scalar.subi v341 v343
  let v345 : BitVec 1 := Scalar.cmpi .ne v339 v344
  let v346 : BitVec 32 := Scalar.remsi v221 c64_i32_171
  let c0_i32_176 : BitVec 32 := 0#32
  let v347 : BitVec 1 := Scalar.cmpi .ne v346 c0_i32_176
  let v348 : BitVec 1 := Scalar.andi v345 v347
  let v334 : BitVec 32 := Scalar.divsi v221 c64_i32_171
  let c1_i32_177 : BitVec 32 := 1#32
  let v349 : BitVec 32 := Scalar.subi v334 c1_i32_177
  let v350 : BitVec 32 := Scalar.select v348 v349 v334
  let v352 : BitVec 32 := Scalar.addi v351 v350
  let c0_i32_180 : BitVec 32 := 0#32
  let v354 : BitVec 1 := Scalar.cmpi .sgt v352 c0_i32_180
  let v355 : BitVec 32 := Scalar.extui v354
  let c0_i32_181 : BitVec 32 := 0#32
  let v356 : BitVec 1 := Scalar.cmpi .slt v352 c0_i32_181
  let v357 : BitVec 32 := Scalar.extui v356
  let v358 : BitVec 32 := Scalar.subi v355 v357
  let c8_i32_179 : BitVec 32 := 8#32
  let c0_i32_182 : BitVec 32 := 0#32
  let v359 : BitVec 1 := Scalar.cmpi .sgt c8_i32_179 c0_i32_182
  let v360 : BitVec 32 := Scalar.extui v359
  let c0_i32_183 : BitVec 32 := 0#32
  let v361 : BitVec 1 := Scalar.cmpi .slt c8_i32_179 c0_i32_183
  let v362 : BitVec 32 := Scalar.extui v361
  let v363 : BitVec 32 := Scalar.subi v360 v362
  let v364 : BitVec 1 := Scalar.cmpi .ne v358 v363
  let v365 : BitVec 32 := Scalar.remsi v352 c8_i32_179
  let c0_i32_184 : BitVec 32 := 0#32
  let v366 : BitVec 1 := Scalar.cmpi .ne v365 c0_i32_184
  let v367 : BitVec 1 := Scalar.andi v364 v366
  let v353 : BitVec 32 := Scalar.divsi v352 c8_i32_179
  let c1_i32_185 : BitVec 32 := 1#32
  let v368 : BitVec 32 := Scalar.subi v353 c1_i32_185
  let v369 : BitVec 32 := Scalar.select v367 v368 v353
  let c4096_i32_193 : BitVec 32 := 4096#32
  let v382 : BitVec 32 := Scalar.muli v369 c4096_i32_193
  let c64_i32_194 : BitVec 32 := 64#32
  let c0_i32_195 : BitVec 32 := 0#32
  let v383 : BitVec 1 := Scalar.cmpi .eq c64_i32_194 c0_i32_195
  let c1_i32_196 : BitVec 32 := 1#32
  let v384 : BitVec 32 := Scalar.select v383 c1_i32_196 c64_i32_194
  let v385 : BitVec 32 := Scalar.remsi v221 v384
  let c0_i32_198 : BitVec 32 := 0#32
  let v387 : BitVec 1 := Scalar.cmpi .slt v385 c0_i32_198
  let c0_i32_199 : BitVec 32 := 0#32
  let v388 : BitVec 1 := Scalar.cmpi .slt v384 c0_i32_199
  let v389 : BitVec 1 := Scalar.xori v387 v388
  let c0_i32_197 : BitVec 32 := 0#32
  let v386 : BitVec 1 := Scalar.cmpi .ne v385 c0_i32_197
  let v390 : BitVec 1 := Scalar.andi v389 v386
  let v391 : BitVec 32 := Scalar.addi v385 v384
  let v392 : BitVec 32 := Scalar.select v390 v391 v385
  let c64_i32_200 : BitVec 32 := 64#32
  let v393 : BitVec 32 := Scalar.muli v392 c64_i32_200
  let v394 : BitVec 32 := Scalar.addi v382 v393
  v394
def k0_cond2 (k0_t1 : Fin k0_t1_loop.trips) : BitVec 1 :=
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c2_i32_201 : BitVec 32 := 2#32
  let v398 : BitVec 32 := Scalar.addi v221 c2_i32_201
  let c64_i32_202 : BitVec 32 := 64#32
  let v399 : BitVec 1 := Scalar.cmpi .slt v398 c64_i32_202
  let v400 : BitVec 32 := Scalar.extui v399
  let c0_i32_203 : BitVec 32 := 0#32
  let v401 : BitVec 1 := Scalar.cmpi .ne v400 c0_i32_203
  v401

def k0_mult11 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_306 : BitVec 32 := 1#32
  let v602 : BitVec 32 := Scalar.muli v1 c1_i32_306
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c2_i32_298 : BitVec 32 := 2#32
  let v584 : BitVec 32 := Scalar.addi v221 c2_i32_298
  let c0_i32_300 : BitVec 32 := 0#32
  let v586 : BitVec 1 := Scalar.cmpi .sgt v584 c0_i32_300
  let v587 : BitVec 32 := Scalar.extui v586
  let c0_i32_301 : BitVec 32 := 0#32
  let v588 : BitVec 1 := Scalar.cmpi .slt v584 c0_i32_301
  let v589 : BitVec 32 := Scalar.extui v588
  let v590 : BitVec 32 := Scalar.subi v587 v589
  let c64_i32_299 : BitVec 32 := 64#32
  let c0_i32_302 : BitVec 32 := 0#32
  let v591 : BitVec 1 := Scalar.cmpi .sgt c64_i32_299 c0_i32_302
  let v592 : BitVec 32 := Scalar.extui v591
  let c0_i32_303 : BitVec 32 := 0#32
  let v593 : BitVec 1 := Scalar.cmpi .slt c64_i32_299 c0_i32_303
  let v594 : BitVec 32 := Scalar.extui v593
  let v595 : BitVec 32 := Scalar.subi v592 v594
  let v596 : BitVec 1 := Scalar.cmpi .ne v590 v595
  let v597 : BitVec 32 := Scalar.remsi v584 c64_i32_299
  let c0_i32_304 : BitVec 32 := 0#32
  let v598 : BitVec 1 := Scalar.cmpi .ne v597 c0_i32_304
  let v599 : BitVec 1 := Scalar.andi v596 v598
  let v585 : BitVec 32 := Scalar.divsi v584 c64_i32_299
  let c1_i32_305 : BitVec 32 := 1#32
  let v600 : BitVec 32 := Scalar.subi v585 c1_i32_305
  let v601 : BitVec 32 := Scalar.select v599 v600 v585
  let v603 : BitVec 32 := Scalar.addi v602 v601
  let c8_i32_314 : BitVec 32 := 8#32
  let c0_i32_315 : BitVec 32 := 0#32
  let v621 : BitVec 1 := Scalar.cmpi .eq c8_i32_314 c0_i32_315
  let c1_i32_316 : BitVec 32 := 1#32
  let v622 : BitVec 32 := Scalar.select v621 c1_i32_316 c8_i32_314
  let v623 : BitVec 32 := Scalar.remsi v603 v622
  let c0_i32_318 : BitVec 32 := 0#32
  let v625 : BitVec 1 := Scalar.cmpi .slt v623 c0_i32_318
  let c0_i32_319 : BitVec 32 := 0#32
  let v626 : BitVec 1 := Scalar.cmpi .slt v622 c0_i32_319
  let v627 : BitVec 1 := Scalar.xori v625 v626
  let c0_i32_317 : BitVec 32 := 0#32
  let v624 : BitVec 1 := Scalar.cmpi .ne v623 c0_i32_317
  let v628 : BitVec 1 := Scalar.andi v627 v624
  let v629 : BitVec 32 := Scalar.addi v623 v622
  let v630 : BitVec 32 := Scalar.select v628 v629 v623
  let c256_i32_320 : BitVec 32 := 256#32
  let v631 : BitVec 32 := Scalar.muli v630 c256_i32_320
  v631
def k0_mult12 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_306 : BitVec 32 := 1#32
  let v602 : BitVec 32 := Scalar.muli v1 c1_i32_306
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c2_i32_298 : BitVec 32 := 2#32
  let v584 : BitVec 32 := Scalar.addi v221 c2_i32_298
  let c0_i32_300 : BitVec 32 := 0#32
  let v586 : BitVec 1 := Scalar.cmpi .sgt v584 c0_i32_300
  let v587 : BitVec 32 := Scalar.extui v586
  let c0_i32_301 : BitVec 32 := 0#32
  let v588 : BitVec 1 := Scalar.cmpi .slt v584 c0_i32_301
  let v589 : BitVec 32 := Scalar.extui v588
  let v590 : BitVec 32 := Scalar.subi v587 v589
  let c64_i32_299 : BitVec 32 := 64#32
  let c0_i32_302 : BitVec 32 := 0#32
  let v591 : BitVec 1 := Scalar.cmpi .sgt c64_i32_299 c0_i32_302
  let v592 : BitVec 32 := Scalar.extui v591
  let c0_i32_303 : BitVec 32 := 0#32
  let v593 : BitVec 1 := Scalar.cmpi .slt c64_i32_299 c0_i32_303
  let v594 : BitVec 32 := Scalar.extui v593
  let v595 : BitVec 32 := Scalar.subi v592 v594
  let v596 : BitVec 1 := Scalar.cmpi .ne v590 v595
  let v597 : BitVec 32 := Scalar.remsi v584 c64_i32_299
  let c0_i32_304 : BitVec 32 := 0#32
  let v598 : BitVec 1 := Scalar.cmpi .ne v597 c0_i32_304
  let v599 : BitVec 1 := Scalar.andi v596 v598
  let v585 : BitVec 32 := Scalar.divsi v584 c64_i32_299
  let c1_i32_305 : BitVec 32 := 1#32
  let v600 : BitVec 32 := Scalar.subi v585 c1_i32_305
  let v601 : BitVec 32 := Scalar.select v599 v600 v585
  let v603 : BitVec 32 := Scalar.addi v602 v601
  let c0_i32_308 : BitVec 32 := 0#32
  let v605 : BitVec 1 := Scalar.cmpi .sgt v603 c0_i32_308
  let v606 : BitVec 32 := Scalar.extui v605
  let c0_i32_309 : BitVec 32 := 0#32
  let v607 : BitVec 1 := Scalar.cmpi .slt v603 c0_i32_309
  let v608 : BitVec 32 := Scalar.extui v607
  let v609 : BitVec 32 := Scalar.subi v606 v608
  let c8_i32_307 : BitVec 32 := 8#32
  let c0_i32_310 : BitVec 32 := 0#32
  let v610 : BitVec 1 := Scalar.cmpi .sgt c8_i32_307 c0_i32_310
  let v611 : BitVec 32 := Scalar.extui v610
  let c0_i32_311 : BitVec 32 := 0#32
  let v612 : BitVec 1 := Scalar.cmpi .slt c8_i32_307 c0_i32_311
  let v613 : BitVec 32 := Scalar.extui v612
  let v614 : BitVec 32 := Scalar.subi v611 v613
  let v615 : BitVec 1 := Scalar.cmpi .ne v609 v614
  let v616 : BitVec 32 := Scalar.remsi v603 c8_i32_307
  let c0_i32_312 : BitVec 32 := 0#32
  let v617 : BitVec 1 := Scalar.cmpi .ne v616 c0_i32_312
  let v618 : BitVec 1 := Scalar.andi v615 v617
  let v604 : BitVec 32 := Scalar.divsi v603 c8_i32_307
  let c1_i32_313 : BitVec 32 := 1#32
  let v619 : BitVec 32 := Scalar.subi v604 c1_i32_313
  let v620 : BitVec 32 := Scalar.select v618 v619 v604
  let c4096_i32_321 : BitVec 32 := 4096#32
  let v633 : BitVec 32 := Scalar.muli v620 c4096_i32_321
  let c64_i32_322 : BitVec 32 := 64#32
  let c0_i32_323 : BitVec 32 := 0#32
  let v634 : BitVec 1 := Scalar.cmpi .eq c64_i32_322 c0_i32_323
  let c1_i32_324 : BitVec 32 := 1#32
  let v635 : BitVec 32 := Scalar.select v634 c1_i32_324 c64_i32_322
  let v636 : BitVec 32 := Scalar.remsi v584 v635
  let c0_i32_326 : BitVec 32 := 0#32
  let v638 : BitVec 1 := Scalar.cmpi .slt v636 c0_i32_326
  let c0_i32_327 : BitVec 32 := 0#32
  let v639 : BitVec 1 := Scalar.cmpi .slt v635 c0_i32_327
  let v640 : BitVec 1 := Scalar.xori v638 v639
  let c0_i32_325 : BitVec 32 := 0#32
  let v637 : BitVec 1 := Scalar.cmpi .ne v636 c0_i32_325
  let v641 : BitVec 1 := Scalar.andi v640 v637
  let v642 : BitVec 32 := Scalar.addi v636 v635
  let v643 : BitVec 32 := Scalar.select v641 v642 v636
  let c64_i32_328 : BitVec 32 := 64#32
  let v644 : BitVec 32 := Scalar.muli v643 c64_i32_328
  let v645 : BitVec 32 := Scalar.addi v633 v644
  v645
def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_306 : BitVec 32 := 1#32
  let v602 : BitVec 32 := Scalar.muli v1 c1_i32_306
  let c2_i32_110 : BitVec 32 := 2#32
  let c0_i32_45 : BitVec 32 := 0#32
  let c1_i32_46 : BitVec 32 := 1#32
  let arg12 : BitVec 32 := Scf.iv c0_i32_45 c1_i32_46 k0_t1
  let v220 : BitVec 32 := Scalar.muli c2_i32_110 arg12
  let c0_i32_111 : BitVec 32 := 0#32
  let v221 : BitVec 32 := Scalar.addi v220 c0_i32_111
  let c2_i32_298 : BitVec 32 := 2#32
  let v584 : BitVec 32 := Scalar.addi v221 c2_i32_298
  let c0_i32_300 : BitVec 32 := 0#32
  let v586 : BitVec 1 := Scalar.cmpi .sgt v584 c0_i32_300
  let v587 : BitVec 32 := Scalar.extui v586
  let c0_i32_301 : BitVec 32 := 0#32
  let v588 : BitVec 1 := Scalar.cmpi .slt v584 c0_i32_301
  let v589 : BitVec 32 := Scalar.extui v588
  let v590 : BitVec 32 := Scalar.subi v587 v589
  let c64_i32_299 : BitVec 32 := 64#32
  let c0_i32_302 : BitVec 32 := 0#32
  let v591 : BitVec 1 := Scalar.cmpi .sgt c64_i32_299 c0_i32_302
  let v592 : BitVec 32 := Scalar.extui v591
  let c0_i32_303 : BitVec 32 := 0#32
  let v593 : BitVec 1 := Scalar.cmpi .slt c64_i32_299 c0_i32_303
  let v594 : BitVec 32 := Scalar.extui v593
  let v595 : BitVec 32 := Scalar.subi v592 v594
  let v596 : BitVec 1 := Scalar.cmpi .ne v590 v595
  let v597 : BitVec 32 := Scalar.remsi v584 c64_i32_299
  let c0_i32_304 : BitVec 32 := 0#32
  let v598 : BitVec 1 := Scalar.cmpi .ne v597 c0_i32_304
  let v599 : BitVec 1 := Scalar.andi v596 v598
  let v585 : BitVec 32 := Scalar.divsi v584 c64_i32_299
  let c1_i32_305 : BitVec 32 := 1#32
  let v600 : BitVec 32 := Scalar.subi v585 c1_i32_305
  let v601 : BitVec 32 := Scalar.select v599 v600 v585
  let v603 : BitVec 32 := Scalar.addi v602 v601
  let c0_i32_308 : BitVec 32 := 0#32
  let v605 : BitVec 1 := Scalar.cmpi .sgt v603 c0_i32_308
  let v606 : BitVec 32 := Scalar.extui v605
  let c0_i32_309 : BitVec 32 := 0#32
  let v607 : BitVec 1 := Scalar.cmpi .slt v603 c0_i32_309
  let v608 : BitVec 32 := Scalar.extui v607
  let v609 : BitVec 32 := Scalar.subi v606 v608
  let c8_i32_307 : BitVec 32 := 8#32
  let c0_i32_310 : BitVec 32 := 0#32
  let v610 : BitVec 1 := Scalar.cmpi .sgt c8_i32_307 c0_i32_310
  let v611 : BitVec 32 := Scalar.extui v610
  let c0_i32_311 : BitVec 32 := 0#32
  let v612 : BitVec 1 := Scalar.cmpi .slt c8_i32_307 c0_i32_311
  let v613 : BitVec 32 := Scalar.extui v612
  let v614 : BitVec 32 := Scalar.subi v611 v613
  let v615 : BitVec 1 := Scalar.cmpi .ne v609 v614
  let v616 : BitVec 32 := Scalar.remsi v603 c8_i32_307
  let c0_i32_312 : BitVec 32 := 0#32
  let v617 : BitVec 1 := Scalar.cmpi .ne v616 c0_i32_312
  let v618 : BitVec 1 := Scalar.andi v615 v617
  let v604 : BitVec 32 := Scalar.divsi v603 c8_i32_307
  let c1_i32_313 : BitVec 32 := 1#32
  let v619 : BitVec 32 := Scalar.subi v604 c1_i32_313
  let v620 : BitVec 32 := Scalar.select v618 v619 v604
  let c4096_i32_321 : BitVec 32 := 4096#32
  let v633 : BitVec 32 := Scalar.muli v620 c4096_i32_321
  let c64_i32_322 : BitVec 32 := 64#32
  let c0_i32_323 : BitVec 32 := 0#32
  let v634 : BitVec 1 := Scalar.cmpi .eq c64_i32_322 c0_i32_323
  let c1_i32_324 : BitVec 32 := 1#32
  let v635 : BitVec 32 := Scalar.select v634 c1_i32_324 c64_i32_322
  let v636 : BitVec 32 := Scalar.remsi v584 v635
  let c0_i32_326 : BitVec 32 := 0#32
  let v638 : BitVec 1 := Scalar.cmpi .slt v636 c0_i32_326
  let c0_i32_327 : BitVec 32 := 0#32
  let v639 : BitVec 1 := Scalar.cmpi .slt v635 c0_i32_327
  let v640 : BitVec 1 := Scalar.xori v638 v639
  let c0_i32_325 : BitVec 32 := 0#32
  let v637 : BitVec 1 := Scalar.cmpi .ne v636 c0_i32_325
  let v641 : BitVec 1 := Scalar.andi v640 v637
  let v642 : BitVec 32 := Scalar.addi v636 v635
  let v643 : BitVec 32 := Scalar.select v641 v642 v636
  let c64_i32_328 : BitVec 32 := 64#32
  let v644 : BitVec 32 := Scalar.muli v643 c64_i32_328
  let v645 : BitVec 32 := Scalar.addi v633 v644
  let v646 : BitVec 32 := v645
  let c8_i32_314 : BitVec 32 := 8#32
  let c0_i32_315 : BitVec 32 := 0#32
  let v621 : BitVec 1 := Scalar.cmpi .eq c8_i32_314 c0_i32_315
  let c1_i32_316 : BitVec 32 := 1#32
  let v622 : BitVec 32 := Scalar.select v621 c1_i32_316 c8_i32_314
  let v623 : BitVec 32 := Scalar.remsi v603 v622
  let c0_i32_318 : BitVec 32 := 0#32
  let v625 : BitVec 1 := Scalar.cmpi .slt v623 c0_i32_318
  let c0_i32_319 : BitVec 32 := 0#32
  let v626 : BitVec 1 := Scalar.cmpi .slt v622 c0_i32_319
  let v627 : BitVec 1 := Scalar.xori v625 v626
  let c0_i32_317 : BitVec 32 := 0#32
  let v624 : BitVec 1 := Scalar.cmpi .ne v623 c0_i32_317
  let v628 : BitVec 1 := Scalar.andi v627 v624
  let v629 : BitVec 32 := Scalar.addi v623 v622
  let v630 : BitVec 32 := Scalar.select v628 v629 v623
  let c256_i32_320 : BitVec 32 := 256#32
  let v631 : BitVec 32 := Scalar.muli v630 c256_i32_320
  let v632 : BitVec 32 := v631
  ![v646.toNat, v632.toNat]
def k0_mult13 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_213 : BitVec 32 := 1#32
  let v421 : BitVec 32 := Scalar.muli v1 c1_i32_213
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c0_i32_207 : BitVec 32 := 0#32
  let v405 : BitVec 1 := Scalar.cmpi .sgt v403 c0_i32_207
  let v406 : BitVec 32 := Scalar.extui v405
  let c0_i32_208 : BitVec 32 := 0#32
  let v407 : BitVec 1 := Scalar.cmpi .slt v403 c0_i32_208
  let v408 : BitVec 32 := Scalar.extui v407
  let v409 : BitVec 32 := Scalar.subi v406 v408
  let c64_i32_206 : BitVec 32 := 64#32
  let c0_i32_209 : BitVec 32 := 0#32
  let v410 : BitVec 1 := Scalar.cmpi .sgt c64_i32_206 c0_i32_209
  let v411 : BitVec 32 := Scalar.extui v410
  let c0_i32_210 : BitVec 32 := 0#32
  let v412 : BitVec 1 := Scalar.cmpi .slt c64_i32_206 c0_i32_210
  let v413 : BitVec 32 := Scalar.extui v412
  let v414 : BitVec 32 := Scalar.subi v411 v413
  let v415 : BitVec 1 := Scalar.cmpi .ne v409 v414
  let v416 : BitVec 32 := Scalar.remsi v403 c64_i32_206
  let c0_i32_211 : BitVec 32 := 0#32
  let v417 : BitVec 1 := Scalar.cmpi .ne v416 c0_i32_211
  let v418 : BitVec 1 := Scalar.andi v415 v417
  let v404 : BitVec 32 := Scalar.divsi v403 c64_i32_206
  let c1_i32_212 : BitVec 32 := 1#32
  let v419 : BitVec 32 := Scalar.subi v404 c1_i32_212
  let v420 : BitVec 32 := Scalar.select v418 v419 v404
  let v422 : BitVec 32 := Scalar.addi v421 v420
  let c8_i32_221 : BitVec 32 := 8#32
  let c0_i32_222 : BitVec 32 := 0#32
  let v440 : BitVec 1 := Scalar.cmpi .eq c8_i32_221 c0_i32_222
  let c1_i32_223 : BitVec 32 := 1#32
  let v441 : BitVec 32 := Scalar.select v440 c1_i32_223 c8_i32_221
  let v442 : BitVec 32 := Scalar.remsi v422 v441
  let c0_i32_225 : BitVec 32 := 0#32
  let v444 : BitVec 1 := Scalar.cmpi .slt v442 c0_i32_225
  let c0_i32_226 : BitVec 32 := 0#32
  let v445 : BitVec 1 := Scalar.cmpi .slt v441 c0_i32_226
  let v446 : BitVec 1 := Scalar.xori v444 v445
  let c0_i32_224 : BitVec 32 := 0#32
  let v443 : BitVec 1 := Scalar.cmpi .ne v442 c0_i32_224
  let v447 : BitVec 1 := Scalar.andi v446 v443
  let v448 : BitVec 32 := Scalar.addi v442 v441
  let v449 : BitVec 32 := Scalar.select v447 v448 v442
  let c256_i32_227 : BitVec 32 := 256#32
  let v450 : BitVec 32 := Scalar.muli v449 c256_i32_227
  v450
def k0_mult14 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_213 : BitVec 32 := 1#32
  let v421 : BitVec 32 := Scalar.muli v1 c1_i32_213
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c0_i32_207 : BitVec 32 := 0#32
  let v405 : BitVec 1 := Scalar.cmpi .sgt v403 c0_i32_207
  let v406 : BitVec 32 := Scalar.extui v405
  let c0_i32_208 : BitVec 32 := 0#32
  let v407 : BitVec 1 := Scalar.cmpi .slt v403 c0_i32_208
  let v408 : BitVec 32 := Scalar.extui v407
  let v409 : BitVec 32 := Scalar.subi v406 v408
  let c64_i32_206 : BitVec 32 := 64#32
  let c0_i32_209 : BitVec 32 := 0#32
  let v410 : BitVec 1 := Scalar.cmpi .sgt c64_i32_206 c0_i32_209
  let v411 : BitVec 32 := Scalar.extui v410
  let c0_i32_210 : BitVec 32 := 0#32
  let v412 : BitVec 1 := Scalar.cmpi .slt c64_i32_206 c0_i32_210
  let v413 : BitVec 32 := Scalar.extui v412
  let v414 : BitVec 32 := Scalar.subi v411 v413
  let v415 : BitVec 1 := Scalar.cmpi .ne v409 v414
  let v416 : BitVec 32 := Scalar.remsi v403 c64_i32_206
  let c0_i32_211 : BitVec 32 := 0#32
  let v417 : BitVec 1 := Scalar.cmpi .ne v416 c0_i32_211
  let v418 : BitVec 1 := Scalar.andi v415 v417
  let v404 : BitVec 32 := Scalar.divsi v403 c64_i32_206
  let c1_i32_212 : BitVec 32 := 1#32
  let v419 : BitVec 32 := Scalar.subi v404 c1_i32_212
  let v420 : BitVec 32 := Scalar.select v418 v419 v404
  let v422 : BitVec 32 := Scalar.addi v421 v420
  let c0_i32_215 : BitVec 32 := 0#32
  let v424 : BitVec 1 := Scalar.cmpi .sgt v422 c0_i32_215
  let v425 : BitVec 32 := Scalar.extui v424
  let c0_i32_216 : BitVec 32 := 0#32
  let v426 : BitVec 1 := Scalar.cmpi .slt v422 c0_i32_216
  let v427 : BitVec 32 := Scalar.extui v426
  let v428 : BitVec 32 := Scalar.subi v425 v427
  let c8_i32_214 : BitVec 32 := 8#32
  let c0_i32_217 : BitVec 32 := 0#32
  let v429 : BitVec 1 := Scalar.cmpi .sgt c8_i32_214 c0_i32_217
  let v430 : BitVec 32 := Scalar.extui v429
  let c0_i32_218 : BitVec 32 := 0#32
  let v431 : BitVec 1 := Scalar.cmpi .slt c8_i32_214 c0_i32_218
  let v432 : BitVec 32 := Scalar.extui v431
  let v433 : BitVec 32 := Scalar.subi v430 v432
  let v434 : BitVec 1 := Scalar.cmpi .ne v428 v433
  let v435 : BitVec 32 := Scalar.remsi v422 c8_i32_214
  let c0_i32_219 : BitVec 32 := 0#32
  let v436 : BitVec 1 := Scalar.cmpi .ne v435 c0_i32_219
  let v437 : BitVec 1 := Scalar.andi v434 v436
  let v423 : BitVec 32 := Scalar.divsi v422 c8_i32_214
  let c1_i32_220 : BitVec 32 := 1#32
  let v438 : BitVec 32 := Scalar.subi v423 c1_i32_220
  let v439 : BitVec 32 := Scalar.select v437 v438 v423
  let c4096_i32_228 : BitVec 32 := 4096#32
  let v452 : BitVec 32 := Scalar.muli v439 c4096_i32_228
  let c64_i32_229 : BitVec 32 := 64#32
  let c0_i32_230 : BitVec 32 := 0#32
  let v453 : BitVec 1 := Scalar.cmpi .eq c64_i32_229 c0_i32_230
  let c1_i32_231 : BitVec 32 := 1#32
  let v454 : BitVec 32 := Scalar.select v453 c1_i32_231 c64_i32_229
  let v455 : BitVec 32 := Scalar.remsi v403 v454
  let c0_i32_233 : BitVec 32 := 0#32
  let v457 : BitVec 1 := Scalar.cmpi .slt v455 c0_i32_233
  let c0_i32_234 : BitVec 32 := 0#32
  let v458 : BitVec 1 := Scalar.cmpi .slt v454 c0_i32_234
  let v459 : BitVec 1 := Scalar.xori v457 v458
  let c0_i32_232 : BitVec 32 := 0#32
  let v456 : BitVec 1 := Scalar.cmpi .ne v455 c0_i32_232
  let v460 : BitVec 1 := Scalar.andi v459 v456
  let v461 : BitVec 32 := Scalar.addi v455 v454
  let v462 : BitVec 32 := Scalar.select v460 v461 v455
  let c64_i32_235 : BitVec 32 := 64#32
  let v463 : BitVec 32 := Scalar.muli v462 c64_i32_235
  let v464 : BitVec 32 := Scalar.addi v452 v463
  v464
def k0_cond3 (k0_t1 : Fin k0_t1_loop.trips) : BitVec 1 :=
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c2_i32_236 : BitVec 32 := 2#32
  let v468 : BitVec 1 := Scalar.cmpi .sge v403 c2_i32_236
  let v469 : BitVec 32 := Scalar.extui v468
  let c0_i32_237 : BitVec 32 := 0#32
  let v470 : BitVec 1 := Scalar.cmpi .ne v469 c0_i32_237
  v470

def k0_mult15 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_305 : BitVec 32 := 1#32
  let v601 : BitVec 32 := Scalar.muli v1 c1_i32_305
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c0_i32_299 : BitVec 32 := 0#32
  let v585 : BitVec 1 := Scalar.cmpi .sgt v403 c0_i32_299
  let v586 : BitVec 32 := Scalar.extui v585
  let c0_i32_300 : BitVec 32 := 0#32
  let v587 : BitVec 1 := Scalar.cmpi .slt v403 c0_i32_300
  let v588 : BitVec 32 := Scalar.extui v587
  let v589 : BitVec 32 := Scalar.subi v586 v588
  let c64_i32_298 : BitVec 32 := 64#32
  let c0_i32_301 : BitVec 32 := 0#32
  let v590 : BitVec 1 := Scalar.cmpi .sgt c64_i32_298 c0_i32_301
  let v591 : BitVec 32 := Scalar.extui v590
  let c0_i32_302 : BitVec 32 := 0#32
  let v592 : BitVec 1 := Scalar.cmpi .slt c64_i32_298 c0_i32_302
  let v593 : BitVec 32 := Scalar.extui v592
  let v594 : BitVec 32 := Scalar.subi v591 v593
  let v595 : BitVec 1 := Scalar.cmpi .ne v589 v594
  let v596 : BitVec 32 := Scalar.remsi v403 c64_i32_298
  let c0_i32_303 : BitVec 32 := 0#32
  let v597 : BitVec 1 := Scalar.cmpi .ne v596 c0_i32_303
  let v598 : BitVec 1 := Scalar.andi v595 v597
  let v584 : BitVec 32 := Scalar.divsi v403 c64_i32_298
  let c1_i32_304 : BitVec 32 := 1#32
  let v599 : BitVec 32 := Scalar.subi v584 c1_i32_304
  let v600 : BitVec 32 := Scalar.select v598 v599 v584
  let v602 : BitVec 32 := Scalar.addi v601 v600
  let c8_i32_313 : BitVec 32 := 8#32
  let c0_i32_314 : BitVec 32 := 0#32
  let v620 : BitVec 1 := Scalar.cmpi .eq c8_i32_313 c0_i32_314
  let c1_i32_315 : BitVec 32 := 1#32
  let v621 : BitVec 32 := Scalar.select v620 c1_i32_315 c8_i32_313
  let v622 : BitVec 32 := Scalar.remsi v602 v621
  let c0_i32_317 : BitVec 32 := 0#32
  let v624 : BitVec 1 := Scalar.cmpi .slt v622 c0_i32_317
  let c0_i32_318 : BitVec 32 := 0#32
  let v625 : BitVec 1 := Scalar.cmpi .slt v621 c0_i32_318
  let v626 : BitVec 1 := Scalar.xori v624 v625
  let c0_i32_316 : BitVec 32 := 0#32
  let v623 : BitVec 1 := Scalar.cmpi .ne v622 c0_i32_316
  let v627 : BitVec 1 := Scalar.andi v626 v623
  let v628 : BitVec 32 := Scalar.addi v622 v621
  let v629 : BitVec 32 := Scalar.select v627 v628 v622
  let c256_i32_319 : BitVec 32 := 256#32
  let v630 : BitVec 32 := Scalar.muli v629 c256_i32_319
  v630
def k0_mult16 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_305 : BitVec 32 := 1#32
  let v601 : BitVec 32 := Scalar.muli v1 c1_i32_305
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c0_i32_299 : BitVec 32 := 0#32
  let v585 : BitVec 1 := Scalar.cmpi .sgt v403 c0_i32_299
  let v586 : BitVec 32 := Scalar.extui v585
  let c0_i32_300 : BitVec 32 := 0#32
  let v587 : BitVec 1 := Scalar.cmpi .slt v403 c0_i32_300
  let v588 : BitVec 32 := Scalar.extui v587
  let v589 : BitVec 32 := Scalar.subi v586 v588
  let c64_i32_298 : BitVec 32 := 64#32
  let c0_i32_301 : BitVec 32 := 0#32
  let v590 : BitVec 1 := Scalar.cmpi .sgt c64_i32_298 c0_i32_301
  let v591 : BitVec 32 := Scalar.extui v590
  let c0_i32_302 : BitVec 32 := 0#32
  let v592 : BitVec 1 := Scalar.cmpi .slt c64_i32_298 c0_i32_302
  let v593 : BitVec 32 := Scalar.extui v592
  let v594 : BitVec 32 := Scalar.subi v591 v593
  let v595 : BitVec 1 := Scalar.cmpi .ne v589 v594
  let v596 : BitVec 32 := Scalar.remsi v403 c64_i32_298
  let c0_i32_303 : BitVec 32 := 0#32
  let v597 : BitVec 1 := Scalar.cmpi .ne v596 c0_i32_303
  let v598 : BitVec 1 := Scalar.andi v595 v597
  let v584 : BitVec 32 := Scalar.divsi v403 c64_i32_298
  let c1_i32_304 : BitVec 32 := 1#32
  let v599 : BitVec 32 := Scalar.subi v584 c1_i32_304
  let v600 : BitVec 32 := Scalar.select v598 v599 v584
  let v602 : BitVec 32 := Scalar.addi v601 v600
  let c0_i32_307 : BitVec 32 := 0#32
  let v604 : BitVec 1 := Scalar.cmpi .sgt v602 c0_i32_307
  let v605 : BitVec 32 := Scalar.extui v604
  let c0_i32_308 : BitVec 32 := 0#32
  let v606 : BitVec 1 := Scalar.cmpi .slt v602 c0_i32_308
  let v607 : BitVec 32 := Scalar.extui v606
  let v608 : BitVec 32 := Scalar.subi v605 v607
  let c8_i32_306 : BitVec 32 := 8#32
  let c0_i32_309 : BitVec 32 := 0#32
  let v609 : BitVec 1 := Scalar.cmpi .sgt c8_i32_306 c0_i32_309
  let v610 : BitVec 32 := Scalar.extui v609
  let c0_i32_310 : BitVec 32 := 0#32
  let v611 : BitVec 1 := Scalar.cmpi .slt c8_i32_306 c0_i32_310
  let v612 : BitVec 32 := Scalar.extui v611
  let v613 : BitVec 32 := Scalar.subi v610 v612
  let v614 : BitVec 1 := Scalar.cmpi .ne v608 v613
  let v615 : BitVec 32 := Scalar.remsi v602 c8_i32_306
  let c0_i32_311 : BitVec 32 := 0#32
  let v616 : BitVec 1 := Scalar.cmpi .ne v615 c0_i32_311
  let v617 : BitVec 1 := Scalar.andi v614 v616
  let v603 : BitVec 32 := Scalar.divsi v602 c8_i32_306
  let c1_i32_312 : BitVec 32 := 1#32
  let v618 : BitVec 32 := Scalar.subi v603 c1_i32_312
  let v619 : BitVec 32 := Scalar.select v617 v618 v603
  let c4096_i32_320 : BitVec 32 := 4096#32
  let v632 : BitVec 32 := Scalar.muli v619 c4096_i32_320
  let c64_i32_321 : BitVec 32 := 64#32
  let c0_i32_322 : BitVec 32 := 0#32
  let v633 : BitVec 1 := Scalar.cmpi .eq c64_i32_321 c0_i32_322
  let c1_i32_323 : BitVec 32 := 1#32
  let v634 : BitVec 32 := Scalar.select v633 c1_i32_323 c64_i32_321
  let v635 : BitVec 32 := Scalar.remsi v403 v634
  let c0_i32_325 : BitVec 32 := 0#32
  let v637 : BitVec 1 := Scalar.cmpi .slt v635 c0_i32_325
  let c0_i32_326 : BitVec 32 := 0#32
  let v638 : BitVec 1 := Scalar.cmpi .slt v634 c0_i32_326
  let v639 : BitVec 1 := Scalar.xori v637 v638
  let c0_i32_324 : BitVec 32 := 0#32
  let v636 : BitVec 1 := Scalar.cmpi .ne v635 c0_i32_324
  let v640 : BitVec 1 := Scalar.andi v639 v636
  let v641 : BitVec 32 := Scalar.addi v635 v634
  let v642 : BitVec 32 := Scalar.select v640 v641 v635
  let c64_i32_327 : BitVec 32 := 64#32
  let v643 : BitVec 32 := Scalar.muli v642 c64_i32_327
  let v644 : BitVec 32 := Scalar.addi v632 v643
  v644
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_305 : BitVec 32 := 1#32
  let v601 : BitVec 32 := Scalar.muli v1 c1_i32_305
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c0_i32_299 : BitVec 32 := 0#32
  let v585 : BitVec 1 := Scalar.cmpi .sgt v403 c0_i32_299
  let v586 : BitVec 32 := Scalar.extui v585
  let c0_i32_300 : BitVec 32 := 0#32
  let v587 : BitVec 1 := Scalar.cmpi .slt v403 c0_i32_300
  let v588 : BitVec 32 := Scalar.extui v587
  let v589 : BitVec 32 := Scalar.subi v586 v588
  let c64_i32_298 : BitVec 32 := 64#32
  let c0_i32_301 : BitVec 32 := 0#32
  let v590 : BitVec 1 := Scalar.cmpi .sgt c64_i32_298 c0_i32_301
  let v591 : BitVec 32 := Scalar.extui v590
  let c0_i32_302 : BitVec 32 := 0#32
  let v592 : BitVec 1 := Scalar.cmpi .slt c64_i32_298 c0_i32_302
  let v593 : BitVec 32 := Scalar.extui v592
  let v594 : BitVec 32 := Scalar.subi v591 v593
  let v595 : BitVec 1 := Scalar.cmpi .ne v589 v594
  let v596 : BitVec 32 := Scalar.remsi v403 c64_i32_298
  let c0_i32_303 : BitVec 32 := 0#32
  let v597 : BitVec 1 := Scalar.cmpi .ne v596 c0_i32_303
  let v598 : BitVec 1 := Scalar.andi v595 v597
  let v584 : BitVec 32 := Scalar.divsi v403 c64_i32_298
  let c1_i32_304 : BitVec 32 := 1#32
  let v599 : BitVec 32 := Scalar.subi v584 c1_i32_304
  let v600 : BitVec 32 := Scalar.select v598 v599 v584
  let v602 : BitVec 32 := Scalar.addi v601 v600
  let c0_i32_307 : BitVec 32 := 0#32
  let v604 : BitVec 1 := Scalar.cmpi .sgt v602 c0_i32_307
  let v605 : BitVec 32 := Scalar.extui v604
  let c0_i32_308 : BitVec 32 := 0#32
  let v606 : BitVec 1 := Scalar.cmpi .slt v602 c0_i32_308
  let v607 : BitVec 32 := Scalar.extui v606
  let v608 : BitVec 32 := Scalar.subi v605 v607
  let c8_i32_306 : BitVec 32 := 8#32
  let c0_i32_309 : BitVec 32 := 0#32
  let v609 : BitVec 1 := Scalar.cmpi .sgt c8_i32_306 c0_i32_309
  let v610 : BitVec 32 := Scalar.extui v609
  let c0_i32_310 : BitVec 32 := 0#32
  let v611 : BitVec 1 := Scalar.cmpi .slt c8_i32_306 c0_i32_310
  let v612 : BitVec 32 := Scalar.extui v611
  let v613 : BitVec 32 := Scalar.subi v610 v612
  let v614 : BitVec 1 := Scalar.cmpi .ne v608 v613
  let v615 : BitVec 32 := Scalar.remsi v602 c8_i32_306
  let c0_i32_311 : BitVec 32 := 0#32
  let v616 : BitVec 1 := Scalar.cmpi .ne v615 c0_i32_311
  let v617 : BitVec 1 := Scalar.andi v614 v616
  let v603 : BitVec 32 := Scalar.divsi v602 c8_i32_306
  let c1_i32_312 : BitVec 32 := 1#32
  let v618 : BitVec 32 := Scalar.subi v603 c1_i32_312
  let v619 : BitVec 32 := Scalar.select v617 v618 v603
  let c4096_i32_320 : BitVec 32 := 4096#32
  let v632 : BitVec 32 := Scalar.muli v619 c4096_i32_320
  let c64_i32_321 : BitVec 32 := 64#32
  let c0_i32_322 : BitVec 32 := 0#32
  let v633 : BitVec 1 := Scalar.cmpi .eq c64_i32_321 c0_i32_322
  let c1_i32_323 : BitVec 32 := 1#32
  let v634 : BitVec 32 := Scalar.select v633 c1_i32_323 c64_i32_321
  let v635 : BitVec 32 := Scalar.remsi v403 v634
  let c0_i32_325 : BitVec 32 := 0#32
  let v637 : BitVec 1 := Scalar.cmpi .slt v635 c0_i32_325
  let c0_i32_326 : BitVec 32 := 0#32
  let v638 : BitVec 1 := Scalar.cmpi .slt v634 c0_i32_326
  let v639 : BitVec 1 := Scalar.xori v637 v638
  let c0_i32_324 : BitVec 32 := 0#32
  let v636 : BitVec 1 := Scalar.cmpi .ne v635 c0_i32_324
  let v640 : BitVec 1 := Scalar.andi v639 v636
  let v641 : BitVec 32 := Scalar.addi v635 v634
  let v642 : BitVec 32 := Scalar.select v640 v641 v635
  let c64_i32_327 : BitVec 32 := 64#32
  let v643 : BitVec 32 := Scalar.muli v642 c64_i32_327
  let v644 : BitVec 32 := Scalar.addi v632 v643
  let v645 : BitVec 32 := v644
  let c8_i32_313 : BitVec 32 := 8#32
  let c0_i32_314 : BitVec 32 := 0#32
  let v620 : BitVec 1 := Scalar.cmpi .eq c8_i32_313 c0_i32_314
  let c1_i32_315 : BitVec 32 := 1#32
  let v621 : BitVec 32 := Scalar.select v620 c1_i32_315 c8_i32_313
  let v622 : BitVec 32 := Scalar.remsi v602 v621
  let c0_i32_317 : BitVec 32 := 0#32
  let v624 : BitVec 1 := Scalar.cmpi .slt v622 c0_i32_317
  let c0_i32_318 : BitVec 32 := 0#32
  let v625 : BitVec 1 := Scalar.cmpi .slt v621 c0_i32_318
  let v626 : BitVec 1 := Scalar.xori v624 v625
  let c0_i32_316 : BitVec 32 := 0#32
  let v623 : BitVec 1 := Scalar.cmpi .ne v622 c0_i32_316
  let v627 : BitVec 1 := Scalar.andi v626 v623
  let v628 : BitVec 32 := Scalar.addi v622 v621
  let v629 : BitVec 32 := Scalar.select v627 v628 v622
  let c256_i32_319 : BitVec 32 := 256#32
  let v630 : BitVec 32 := Scalar.muli v629 c256_i32_319
  let v631 : BitVec 32 := v630
  ![v645.toNat, v631.toNat]
@[reducible] def k0_t3_loop : Scf.Loop 32 :=
  let c0_i32_261 : BitVec 32 := 0#32
  let c64_i32_262 : BitVec 32 := 64#32
  let v514 : BitVec 32 := Scalar.addi c0_i32_261 c64_i32_262
  let c1_i32_263 : BitVec 32 := 1#32
  ⟨c0_i32_261, v514, c1_i32_263⟩
def k0_off22 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v584 : Index := Scalar.indexCast arg29
  let c0 : Index := 0#32
  ![v584.toNat, 0]
def k0_off23 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v592 : Index := Scalar.indexCast arg29
  let c16 : Index := 16#32
  ![v592.toNat, 16]
def k0_off24 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v600 : Index := Scalar.indexCast arg29
  let c32 : Index := 32#32
  ![v600.toNat, 32]
def k0_off25 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v608 : Index := Scalar.indexCast arg29
  let c48 : Index := 48#32
  ![v608.toNat, 48]
def k0_off26 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v616 : Index := Scalar.indexCast arg29
  let c64 : Index := 64#32
  ![v616.toNat, 64]
def k0_off27 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v624 : Index := Scalar.indexCast arg29
  let c80 : Index := 80#32
  ![v624.toNat, 80]
def k0_off28 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v632 : Index := Scalar.indexCast arg29
  let c96 : Index := 96#32
  ![v632.toNat, 96]
def k0_off29 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v640 : Index := Scalar.indexCast arg29
  let c112 : Index := 112#32
  ![v640.toNat, 112]
def k0_off30 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v648 : Index := Scalar.indexCast arg29
  let c128 : Index := 128#32
  ![v648.toNat, 128]
def k0_off31 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v656 : Index := Scalar.indexCast arg29
  let c144 : Index := 144#32
  ![v656.toNat, 144]
def k0_off32 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v664 : Index := Scalar.indexCast arg29
  let c160 : Index := 160#32
  ![v664.toNat, 160]
def k0_off33 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v672 : Index := Scalar.indexCast arg29
  let c176 : Index := 176#32
  ![v672.toNat, 176]
def k0_off34 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v680 : Index := Scalar.indexCast arg29
  let c192 : Index := 192#32
  ![v680.toNat, 192]
def k0_off35 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v688 : Index := Scalar.indexCast arg29
  let c208 : Index := 208#32
  ![v688.toNat, 208]
def k0_off36 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v696 : Index := Scalar.indexCast arg29
  let c224 : Index := 224#32
  ![v696.toNat, 224]
def k0_off37 (k0_t3 : Fin k0_t3_loop.trips) : Fin 2 → Nat :=
  let c0_i32_261 : BitVec 32 := 0#32
  let c1_i32_263 : BitVec 32 := 1#32
  let arg29 : BitVec 32 := Scf.iv c0_i32_261 c1_i32_263 k0_t3
  let v704 : Index := Scalar.indexCast arg29
  let c240 : Index := 240#32
  ![v704.toNat, 240]
def k0_mult17 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_272 : BitVec 32 := 1#32
  let v533 : BitVec 32 := Scalar.muli v1 c1_i32_272
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c0_i32_266 : BitVec 32 := 0#32
  let v517 : BitVec 1 := Scalar.cmpi .sgt v403 c0_i32_266
  let v518 : BitVec 32 := Scalar.extui v517
  let c0_i32_267 : BitVec 32 := 0#32
  let v519 : BitVec 1 := Scalar.cmpi .slt v403 c0_i32_267
  let v520 : BitVec 32 := Scalar.extui v519
  let v521 : BitVec 32 := Scalar.subi v518 v520
  let c64_i32_265 : BitVec 32 := 64#32
  let c0_i32_268 : BitVec 32 := 0#32
  let v522 : BitVec 1 := Scalar.cmpi .sgt c64_i32_265 c0_i32_268
  let v523 : BitVec 32 := Scalar.extui v522
  let c0_i32_269 : BitVec 32 := 0#32
  let v524 : BitVec 1 := Scalar.cmpi .slt c64_i32_265 c0_i32_269
  let v525 : BitVec 32 := Scalar.extui v524
  let v526 : BitVec 32 := Scalar.subi v523 v525
  let v527 : BitVec 1 := Scalar.cmpi .ne v521 v526
  let v528 : BitVec 32 := Scalar.remsi v403 c64_i32_265
  let c0_i32_270 : BitVec 32 := 0#32
  let v529 : BitVec 1 := Scalar.cmpi .ne v528 c0_i32_270
  let v530 : BitVec 1 := Scalar.andi v527 v529
  let v516 : BitVec 32 := Scalar.divsi v403 c64_i32_265
  let c1_i32_271 : BitVec 32 := 1#32
  let v531 : BitVec 32 := Scalar.subi v516 c1_i32_271
  let v532 : BitVec 32 := Scalar.select v530 v531 v516
  let v534 : BitVec 32 := Scalar.addi v533 v532
  let c8_i32_280 : BitVec 32 := 8#32
  let c0_i32_281 : BitVec 32 := 0#32
  let v552 : BitVec 1 := Scalar.cmpi .eq c8_i32_280 c0_i32_281
  let c1_i32_282 : BitVec 32 := 1#32
  let v553 : BitVec 32 := Scalar.select v552 c1_i32_282 c8_i32_280
  let v554 : BitVec 32 := Scalar.remsi v534 v553
  let c0_i32_284 : BitVec 32 := 0#32
  let v556 : BitVec 1 := Scalar.cmpi .slt v554 c0_i32_284
  let c0_i32_285 : BitVec 32 := 0#32
  let v557 : BitVec 1 := Scalar.cmpi .slt v553 c0_i32_285
  let v558 : BitVec 1 := Scalar.xori v556 v557
  let c0_i32_283 : BitVec 32 := 0#32
  let v555 : BitVec 1 := Scalar.cmpi .ne v554 c0_i32_283
  let v559 : BitVec 1 := Scalar.andi v558 v555
  let v560 : BitVec 32 := Scalar.addi v554 v553
  let v561 : BitVec 32 := Scalar.select v559 v560 v554
  let c256_i32_286 : BitVec 32 := 256#32
  let v562 : BitVec 32 := Scalar.muli v561 c256_i32_286
  v562
def k0_mult18 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_272 : BitVec 32 := 1#32
  let v533 : BitVec 32 := Scalar.muli v1 c1_i32_272
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c0_i32_266 : BitVec 32 := 0#32
  let v517 : BitVec 1 := Scalar.cmpi .sgt v403 c0_i32_266
  let v518 : BitVec 32 := Scalar.extui v517
  let c0_i32_267 : BitVec 32 := 0#32
  let v519 : BitVec 1 := Scalar.cmpi .slt v403 c0_i32_267
  let v520 : BitVec 32 := Scalar.extui v519
  let v521 : BitVec 32 := Scalar.subi v518 v520
  let c64_i32_265 : BitVec 32 := 64#32
  let c0_i32_268 : BitVec 32 := 0#32
  let v522 : BitVec 1 := Scalar.cmpi .sgt c64_i32_265 c0_i32_268
  let v523 : BitVec 32 := Scalar.extui v522
  let c0_i32_269 : BitVec 32 := 0#32
  let v524 : BitVec 1 := Scalar.cmpi .slt c64_i32_265 c0_i32_269
  let v525 : BitVec 32 := Scalar.extui v524
  let v526 : BitVec 32 := Scalar.subi v523 v525
  let v527 : BitVec 1 := Scalar.cmpi .ne v521 v526
  let v528 : BitVec 32 := Scalar.remsi v403 c64_i32_265
  let c0_i32_270 : BitVec 32 := 0#32
  let v529 : BitVec 1 := Scalar.cmpi .ne v528 c0_i32_270
  let v530 : BitVec 1 := Scalar.andi v527 v529
  let v516 : BitVec 32 := Scalar.divsi v403 c64_i32_265
  let c1_i32_271 : BitVec 32 := 1#32
  let v531 : BitVec 32 := Scalar.subi v516 c1_i32_271
  let v532 : BitVec 32 := Scalar.select v530 v531 v516
  let v534 : BitVec 32 := Scalar.addi v533 v532
  let c0_i32_274 : BitVec 32 := 0#32
  let v536 : BitVec 1 := Scalar.cmpi .sgt v534 c0_i32_274
  let v537 : BitVec 32 := Scalar.extui v536
  let c0_i32_275 : BitVec 32 := 0#32
  let v538 : BitVec 1 := Scalar.cmpi .slt v534 c0_i32_275
  let v539 : BitVec 32 := Scalar.extui v538
  let v540 : BitVec 32 := Scalar.subi v537 v539
  let c8_i32_273 : BitVec 32 := 8#32
  let c0_i32_276 : BitVec 32 := 0#32
  let v541 : BitVec 1 := Scalar.cmpi .sgt c8_i32_273 c0_i32_276
  let v542 : BitVec 32 := Scalar.extui v541
  let c0_i32_277 : BitVec 32 := 0#32
  let v543 : BitVec 1 := Scalar.cmpi .slt c8_i32_273 c0_i32_277
  let v544 : BitVec 32 := Scalar.extui v543
  let v545 : BitVec 32 := Scalar.subi v542 v544
  let v546 : BitVec 1 := Scalar.cmpi .ne v540 v545
  let v547 : BitVec 32 := Scalar.remsi v534 c8_i32_273
  let c0_i32_278 : BitVec 32 := 0#32
  let v548 : BitVec 1 := Scalar.cmpi .ne v547 c0_i32_278
  let v549 : BitVec 1 := Scalar.andi v546 v548
  let v535 : BitVec 32 := Scalar.divsi v534 c8_i32_273
  let c1_i32_279 : BitVec 32 := 1#32
  let v550 : BitVec 32 := Scalar.subi v535 c1_i32_279
  let v551 : BitVec 32 := Scalar.select v549 v550 v535
  let c4096_i32_287 : BitVec 32 := 4096#32
  let v564 : BitVec 32 := Scalar.muli v551 c4096_i32_287
  let c64_i32_288 : BitVec 32 := 64#32
  let c0_i32_289 : BitVec 32 := 0#32
  let v565 : BitVec 1 := Scalar.cmpi .eq c64_i32_288 c0_i32_289
  let c1_i32_290 : BitVec 32 := 1#32
  let v566 : BitVec 32 := Scalar.select v565 c1_i32_290 c64_i32_288
  let v567 : BitVec 32 := Scalar.remsi v403 v566
  let c0_i32_292 : BitVec 32 := 0#32
  let v569 : BitVec 1 := Scalar.cmpi .slt v567 c0_i32_292
  let c0_i32_293 : BitVec 32 := 0#32
  let v570 : BitVec 1 := Scalar.cmpi .slt v566 c0_i32_293
  let v571 : BitVec 1 := Scalar.xori v569 v570
  let c0_i32_291 : BitVec 32 := 0#32
  let v568 : BitVec 1 := Scalar.cmpi .ne v567 c0_i32_291
  let v572 : BitVec 1 := Scalar.andi v571 v568
  let v573 : BitVec 32 := Scalar.addi v567 v566
  let v574 : BitVec 32 := Scalar.select v572 v573 v567
  let c64_i32_294 : BitVec 32 := 64#32
  let v575 : BitVec 32 := Scalar.muli v574 c64_i32_294
  let v576 : BitVec 32 := Scalar.addi v564 v575
  v576
def k0_cond4 (k0_t1 : Fin k0_t1_loop.trips) : BitVec 1 :=
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c2_i32_295 : BitVec 32 := 2#32
  let v580 : BitVec 32 := Scalar.addi v403 c2_i32_295
  let c64_i32_296 : BitVec 32 := 64#32
  let v581 : BitVec 1 := Scalar.cmpi .slt v580 c64_i32_296
  let v582 : BitVec 32 := Scalar.extui v581
  let c0_i32_297 : BitVec 32 := 0#32
  let v583 : BitVec 1 := Scalar.cmpi .ne v582 c0_i32_297
  v583

def k0_mult19 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_306 : BitVec 32 := 1#32
  let v602 : BitVec 32 := Scalar.muli v1 c1_i32_306
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c2_i32_298 : BitVec 32 := 2#32
  let v584 : BitVec 32 := Scalar.addi v403 c2_i32_298
  let c0_i32_300 : BitVec 32 := 0#32
  let v586 : BitVec 1 := Scalar.cmpi .sgt v584 c0_i32_300
  let v587 : BitVec 32 := Scalar.extui v586
  let c0_i32_301 : BitVec 32 := 0#32
  let v588 : BitVec 1 := Scalar.cmpi .slt v584 c0_i32_301
  let v589 : BitVec 32 := Scalar.extui v588
  let v590 : BitVec 32 := Scalar.subi v587 v589
  let c64_i32_299 : BitVec 32 := 64#32
  let c0_i32_302 : BitVec 32 := 0#32
  let v591 : BitVec 1 := Scalar.cmpi .sgt c64_i32_299 c0_i32_302
  let v592 : BitVec 32 := Scalar.extui v591
  let c0_i32_303 : BitVec 32 := 0#32
  let v593 : BitVec 1 := Scalar.cmpi .slt c64_i32_299 c0_i32_303
  let v594 : BitVec 32 := Scalar.extui v593
  let v595 : BitVec 32 := Scalar.subi v592 v594
  let v596 : BitVec 1 := Scalar.cmpi .ne v590 v595
  let v597 : BitVec 32 := Scalar.remsi v584 c64_i32_299
  let c0_i32_304 : BitVec 32 := 0#32
  let v598 : BitVec 1 := Scalar.cmpi .ne v597 c0_i32_304
  let v599 : BitVec 1 := Scalar.andi v596 v598
  let v585 : BitVec 32 := Scalar.divsi v584 c64_i32_299
  let c1_i32_305 : BitVec 32 := 1#32
  let v600 : BitVec 32 := Scalar.subi v585 c1_i32_305
  let v601 : BitVec 32 := Scalar.select v599 v600 v585
  let v603 : BitVec 32 := Scalar.addi v602 v601
  let c8_i32_314 : BitVec 32 := 8#32
  let c0_i32_315 : BitVec 32 := 0#32
  let v621 : BitVec 1 := Scalar.cmpi .eq c8_i32_314 c0_i32_315
  let c1_i32_316 : BitVec 32 := 1#32
  let v622 : BitVec 32 := Scalar.select v621 c1_i32_316 c8_i32_314
  let v623 : BitVec 32 := Scalar.remsi v603 v622
  let c0_i32_318 : BitVec 32 := 0#32
  let v625 : BitVec 1 := Scalar.cmpi .slt v623 c0_i32_318
  let c0_i32_319 : BitVec 32 := 0#32
  let v626 : BitVec 1 := Scalar.cmpi .slt v622 c0_i32_319
  let v627 : BitVec 1 := Scalar.xori v625 v626
  let c0_i32_317 : BitVec 32 := 0#32
  let v624 : BitVec 1 := Scalar.cmpi .ne v623 c0_i32_317
  let v628 : BitVec 1 := Scalar.andi v627 v624
  let v629 : BitVec 32 := Scalar.addi v623 v622
  let v630 : BitVec 32 := Scalar.select v628 v629 v623
  let c256_i32_320 : BitVec 32 := 256#32
  let v631 : BitVec 32 := Scalar.muli v630 c256_i32_320
  v631
def k0_mult20 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_306 : BitVec 32 := 1#32
  let v602 : BitVec 32 := Scalar.muli v1 c1_i32_306
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c2_i32_298 : BitVec 32 := 2#32
  let v584 : BitVec 32 := Scalar.addi v403 c2_i32_298
  let c0_i32_300 : BitVec 32 := 0#32
  let v586 : BitVec 1 := Scalar.cmpi .sgt v584 c0_i32_300
  let v587 : BitVec 32 := Scalar.extui v586
  let c0_i32_301 : BitVec 32 := 0#32
  let v588 : BitVec 1 := Scalar.cmpi .slt v584 c0_i32_301
  let v589 : BitVec 32 := Scalar.extui v588
  let v590 : BitVec 32 := Scalar.subi v587 v589
  let c64_i32_299 : BitVec 32 := 64#32
  let c0_i32_302 : BitVec 32 := 0#32
  let v591 : BitVec 1 := Scalar.cmpi .sgt c64_i32_299 c0_i32_302
  let v592 : BitVec 32 := Scalar.extui v591
  let c0_i32_303 : BitVec 32 := 0#32
  let v593 : BitVec 1 := Scalar.cmpi .slt c64_i32_299 c0_i32_303
  let v594 : BitVec 32 := Scalar.extui v593
  let v595 : BitVec 32 := Scalar.subi v592 v594
  let v596 : BitVec 1 := Scalar.cmpi .ne v590 v595
  let v597 : BitVec 32 := Scalar.remsi v584 c64_i32_299
  let c0_i32_304 : BitVec 32 := 0#32
  let v598 : BitVec 1 := Scalar.cmpi .ne v597 c0_i32_304
  let v599 : BitVec 1 := Scalar.andi v596 v598
  let v585 : BitVec 32 := Scalar.divsi v584 c64_i32_299
  let c1_i32_305 : BitVec 32 := 1#32
  let v600 : BitVec 32 := Scalar.subi v585 c1_i32_305
  let v601 : BitVec 32 := Scalar.select v599 v600 v585
  let v603 : BitVec 32 := Scalar.addi v602 v601
  let c0_i32_308 : BitVec 32 := 0#32
  let v605 : BitVec 1 := Scalar.cmpi .sgt v603 c0_i32_308
  let v606 : BitVec 32 := Scalar.extui v605
  let c0_i32_309 : BitVec 32 := 0#32
  let v607 : BitVec 1 := Scalar.cmpi .slt v603 c0_i32_309
  let v608 : BitVec 32 := Scalar.extui v607
  let v609 : BitVec 32 := Scalar.subi v606 v608
  let c8_i32_307 : BitVec 32 := 8#32
  let c0_i32_310 : BitVec 32 := 0#32
  let v610 : BitVec 1 := Scalar.cmpi .sgt c8_i32_307 c0_i32_310
  let v611 : BitVec 32 := Scalar.extui v610
  let c0_i32_311 : BitVec 32 := 0#32
  let v612 : BitVec 1 := Scalar.cmpi .slt c8_i32_307 c0_i32_311
  let v613 : BitVec 32 := Scalar.extui v612
  let v614 : BitVec 32 := Scalar.subi v611 v613
  let v615 : BitVec 1 := Scalar.cmpi .ne v609 v614
  let v616 : BitVec 32 := Scalar.remsi v603 c8_i32_307
  let c0_i32_312 : BitVec 32 := 0#32
  let v617 : BitVec 1 := Scalar.cmpi .ne v616 c0_i32_312
  let v618 : BitVec 1 := Scalar.andi v615 v617
  let v604 : BitVec 32 := Scalar.divsi v603 c8_i32_307
  let c1_i32_313 : BitVec 32 := 1#32
  let v619 : BitVec 32 := Scalar.subi v604 c1_i32_313
  let v620 : BitVec 32 := Scalar.select v618 v619 v604
  let c4096_i32_321 : BitVec 32 := 4096#32
  let v633 : BitVec 32 := Scalar.muli v620 c4096_i32_321
  let c64_i32_322 : BitVec 32 := 64#32
  let c0_i32_323 : BitVec 32 := 0#32
  let v634 : BitVec 1 := Scalar.cmpi .eq c64_i32_322 c0_i32_323
  let c1_i32_324 : BitVec 32 := 1#32
  let v635 : BitVec 32 := Scalar.select v634 c1_i32_324 c64_i32_322
  let v636 : BitVec 32 := Scalar.remsi v584 v635
  let c0_i32_326 : BitVec 32 := 0#32
  let v638 : BitVec 1 := Scalar.cmpi .slt v636 c0_i32_326
  let c0_i32_327 : BitVec 32 := 0#32
  let v639 : BitVec 1 := Scalar.cmpi .slt v635 c0_i32_327
  let v640 : BitVec 1 := Scalar.xori v638 v639
  let c0_i32_325 : BitVec 32 := 0#32
  let v637 : BitVec 1 := Scalar.cmpi .ne v636 c0_i32_325
  let v641 : BitVec 1 := Scalar.andi v640 v637
  let v642 : BitVec 32 := Scalar.addi v636 v635
  let v643 : BitVec 32 := Scalar.select v641 v642 v636
  let c64_i32_328 : BitVec 32 := 64#32
  let v644 : BitVec 32 := Scalar.muli v643 c64_i32_328
  let v645 : BitVec 32 := Scalar.addi v633 v644
  v645
def k0_off38 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_306 : BitVec 32 := 1#32
  let v602 : BitVec 32 := Scalar.muli v1 c1_i32_306
  let c2_i32_204 : BitVec 32 := 2#32
  let c0_i32_45 : BitVec 32 := 0#32
  let c1_i32_46 : BitVec 32 := 1#32
  let arg12 : BitVec 32 := Scf.iv c0_i32_45 c1_i32_46 k0_t1
  let v402 : BitVec 32 := Scalar.muli c2_i32_204 arg12
  let c1_i32_205 : BitVec 32 := 1#32
  let v403 : BitVec 32 := Scalar.addi v402 c1_i32_205
  let c2_i32_298 : BitVec 32 := 2#32
  let v584 : BitVec 32 := Scalar.addi v403 c2_i32_298
  let c0_i32_300 : BitVec 32 := 0#32
  let v586 : BitVec 1 := Scalar.cmpi .sgt v584 c0_i32_300
  let v587 : BitVec 32 := Scalar.extui v586
  let c0_i32_301 : BitVec 32 := 0#32
  let v588 : BitVec 1 := Scalar.cmpi .slt v584 c0_i32_301
  let v589 : BitVec 32 := Scalar.extui v588
  let v590 : BitVec 32 := Scalar.subi v587 v589
  let c64_i32_299 : BitVec 32 := 64#32
  let c0_i32_302 : BitVec 32 := 0#32
  let v591 : BitVec 1 := Scalar.cmpi .sgt c64_i32_299 c0_i32_302
  let v592 : BitVec 32 := Scalar.extui v591
  let c0_i32_303 : BitVec 32 := 0#32
  let v593 : BitVec 1 := Scalar.cmpi .slt c64_i32_299 c0_i32_303
  let v594 : BitVec 32 := Scalar.extui v593
  let v595 : BitVec 32 := Scalar.subi v592 v594
  let v596 : BitVec 1 := Scalar.cmpi .ne v590 v595
  let v597 : BitVec 32 := Scalar.remsi v584 c64_i32_299
  let c0_i32_304 : BitVec 32 := 0#32
  let v598 : BitVec 1 := Scalar.cmpi .ne v597 c0_i32_304
  let v599 : BitVec 1 := Scalar.andi v596 v598
  let v585 : BitVec 32 := Scalar.divsi v584 c64_i32_299
  let c1_i32_305 : BitVec 32 := 1#32
  let v600 : BitVec 32 := Scalar.subi v585 c1_i32_305
  let v601 : BitVec 32 := Scalar.select v599 v600 v585
  let v603 : BitVec 32 := Scalar.addi v602 v601
  let c0_i32_308 : BitVec 32 := 0#32
  let v605 : BitVec 1 := Scalar.cmpi .sgt v603 c0_i32_308
  let v606 : BitVec 32 := Scalar.extui v605
  let c0_i32_309 : BitVec 32 := 0#32
  let v607 : BitVec 1 := Scalar.cmpi .slt v603 c0_i32_309
  let v608 : BitVec 32 := Scalar.extui v607
  let v609 : BitVec 32 := Scalar.subi v606 v608
  let c8_i32_307 : BitVec 32 := 8#32
  let c0_i32_310 : BitVec 32 := 0#32
  let v610 : BitVec 1 := Scalar.cmpi .sgt c8_i32_307 c0_i32_310
  let v611 : BitVec 32 := Scalar.extui v610
  let c0_i32_311 : BitVec 32 := 0#32
  let v612 : BitVec 1 := Scalar.cmpi .slt c8_i32_307 c0_i32_311
  let v613 : BitVec 32 := Scalar.extui v612
  let v614 : BitVec 32 := Scalar.subi v611 v613
  let v615 : BitVec 1 := Scalar.cmpi .ne v609 v614
  let v616 : BitVec 32 := Scalar.remsi v603 c8_i32_307
  let c0_i32_312 : BitVec 32 := 0#32
  let v617 : BitVec 1 := Scalar.cmpi .ne v616 c0_i32_312
  let v618 : BitVec 1 := Scalar.andi v615 v617
  let v604 : BitVec 32 := Scalar.divsi v603 c8_i32_307
  let c1_i32_313 : BitVec 32 := 1#32
  let v619 : BitVec 32 := Scalar.subi v604 c1_i32_313
  let v620 : BitVec 32 := Scalar.select v618 v619 v604
  let c4096_i32_321 : BitVec 32 := 4096#32
  let v633 : BitVec 32 := Scalar.muli v620 c4096_i32_321
  let c64_i32_322 : BitVec 32 := 64#32
  let c0_i32_323 : BitVec 32 := 0#32
  let v634 : BitVec 1 := Scalar.cmpi .eq c64_i32_322 c0_i32_323
  let c1_i32_324 : BitVec 32 := 1#32
  let v635 : BitVec 32 := Scalar.select v634 c1_i32_324 c64_i32_322
  let v636 : BitVec 32 := Scalar.remsi v584 v635
  let c0_i32_326 : BitVec 32 := 0#32
  let v638 : BitVec 1 := Scalar.cmpi .slt v636 c0_i32_326
  let c0_i32_327 : BitVec 32 := 0#32
  let v639 : BitVec 1 := Scalar.cmpi .slt v635 c0_i32_327
  let v640 : BitVec 1 := Scalar.xori v638 v639
  let c0_i32_325 : BitVec 32 := 0#32
  let v637 : BitVec 1 := Scalar.cmpi .ne v636 c0_i32_325
  let v641 : BitVec 1 := Scalar.andi v640 v637
  let v642 : BitVec 32 := Scalar.addi v636 v635
  let v643 : BitVec 32 := Scalar.select v641 v642 v636
  let c64_i32_328 : BitVec 32 := 64#32
  let v644 : BitVec 32 := Scalar.muli v643 c64_i32_328
  let v645 : BitVec 32 := Scalar.addi v633 v644
  let v646 : BitVec 32 := v645
  let c8_i32_314 : BitVec 32 := 8#32
  let c0_i32_315 : BitVec 32 := 0#32
  let v621 : BitVec 1 := Scalar.cmpi .eq c8_i32_314 c0_i32_315
  let c1_i32_316 : BitVec 32 := 1#32
  let v622 : BitVec 32 := Scalar.select v621 c1_i32_316 c8_i32_314
  let v623 : BitVec 32 := Scalar.remsi v603 v622
  let c0_i32_318 : BitVec 32 := 0#32
  let v625 : BitVec 1 := Scalar.cmpi .slt v623 c0_i32_318
  let c0_i32_319 : BitVec 32 := 0#32
  let v626 : BitVec 1 := Scalar.cmpi .slt v622 c0_i32_319
  let v627 : BitVec 1 := Scalar.xori v625 v626
  let c0_i32_317 : BitVec 32 := 0#32
  let v624 : BitVec 1 := Scalar.cmpi .ne v623 c0_i32_317
  let v628 : BitVec 1 := Scalar.andi v627 v624
  let v629 : BitVec 32 := Scalar.addi v623 v622
  let v630 : BitVec 32 := Scalar.select v628 v629 v623
  let c256_i32_320 : BitVec 32 := 256#32
  let v631 : BitVec 32 := Scalar.muli v630 c256_i32_320
  let v632 : BitVec 32 := v631
  ![v646.toNat, v632.toNat]
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_55 : BitVec 32 := 1#32
  let v109 : BitVec 32 := Scalar.muli v1 c1_i32_55
  let c62_i32 : BitVec 32 := 62#32
  let c0_i32_49 : BitVec 32 := 0#32
  let v93 : BitVec 1 := Scalar.cmpi .sgt c62_i32 c0_i32_49
  let v94 : BitVec 32 := Scalar.extui v93
  let c0_i32_50 : BitVec 32 := 0#32
  let v95 : BitVec 1 := Scalar.cmpi .slt c62_i32 c0_i32_50
  let v96 : BitVec 32 := Scalar.extui v95
  let v97 : BitVec 32 := Scalar.subi v94 v96
  let c64_i32_48 : BitVec 32 := 64#32
  let c0_i32_51 : BitVec 32 := 0#32
  let v98 : BitVec 1 := Scalar.cmpi .sgt c64_i32_48 c0_i32_51
  let v99 : BitVec 32 := Scalar.extui v98
  let c0_i32_52 : BitVec 32 := 0#32
  let v100 : BitVec 1 := Scalar.cmpi .slt c64_i32_48 c0_i32_52
  let v101 : BitVec 32 := Scalar.extui v100
  let v102 : BitVec 32 := Scalar.subi v99 v101
  let v103 : BitVec 1 := Scalar.cmpi .ne v97 v102
  let v104 : BitVec 32 := Scalar.remsi c62_i32 c64_i32_48
  let c0_i32_53 : BitVec 32 := 0#32
  let v105 : BitVec 1 := Scalar.cmpi .ne v104 c0_i32_53
  let v106 : BitVec 1 := Scalar.andi v103 v105
  let v92 : BitVec 32 := Scalar.divsi c62_i32 c64_i32_48
  let c1_i32_54 : BitVec 32 := 1#32
  let v107 : BitVec 32 := Scalar.subi v92 c1_i32_54
  let v108 : BitVec 32 := Scalar.select v106 v107 v92
  let v110 : BitVec 32 := Scalar.addi v109 v108
  let c8_i32_63 : BitVec 32 := 8#32
  let c0_i32_64 : BitVec 32 := 0#32
  let v128 : BitVec 1 := Scalar.cmpi .eq c8_i32_63 c0_i32_64
  let c1_i32_65 : BitVec 32 := 1#32
  let v129 : BitVec 32 := Scalar.select v128 c1_i32_65 c8_i32_63
  let v130 : BitVec 32 := Scalar.remsi v110 v129
  let c0_i32_67 : BitVec 32 := 0#32
  let v132 : BitVec 1 := Scalar.cmpi .slt v130 c0_i32_67
  let c0_i32_68 : BitVec 32 := 0#32
  let v133 : BitVec 1 := Scalar.cmpi .slt v129 c0_i32_68
  let v134 : BitVec 1 := Scalar.xori v132 v133
  let c0_i32_66 : BitVec 32 := 0#32
  let v131 : BitVec 1 := Scalar.cmpi .ne v130 c0_i32_66
  let v135 : BitVec 1 := Scalar.andi v134 v131
  let v136 : BitVec 32 := Scalar.addi v130 v129
  let v137 : BitVec 32 := Scalar.select v135 v136 v130
  let c256_i32_69 : BitVec 32 := 256#32
  let v138 : BitVec 32 := Scalar.muli v137 c256_i32_69
  v138
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_55 : BitVec 32 := 1#32
  let v109 : BitVec 32 := Scalar.muli v1 c1_i32_55
  let c62_i32 : BitVec 32 := 62#32
  let c0_i32_49 : BitVec 32 := 0#32
  let v93 : BitVec 1 := Scalar.cmpi .sgt c62_i32 c0_i32_49
  let v94 : BitVec 32 := Scalar.extui v93
  let c0_i32_50 : BitVec 32 := 0#32
  let v95 : BitVec 1 := Scalar.cmpi .slt c62_i32 c0_i32_50
  let v96 : BitVec 32 := Scalar.extui v95
  let v97 : BitVec 32 := Scalar.subi v94 v96
  let c64_i32_48 : BitVec 32 := 64#32
  let c0_i32_51 : BitVec 32 := 0#32
  let v98 : BitVec 1 := Scalar.cmpi .sgt c64_i32_48 c0_i32_51
  let v99 : BitVec 32 := Scalar.extui v98
  let c0_i32_52 : BitVec 32 := 0#32
  let v100 : BitVec 1 := Scalar.cmpi .slt c64_i32_48 c0_i32_52
  let v101 : BitVec 32 := Scalar.extui v100
  let v102 : BitVec 32 := Scalar.subi v99 v101
  let v103 : BitVec 1 := Scalar.cmpi .ne v97 v102
  let v104 : BitVec 32 := Scalar.remsi c62_i32 c64_i32_48
  let c0_i32_53 : BitVec 32 := 0#32
  let v105 : BitVec 1 := Scalar.cmpi .ne v104 c0_i32_53
  let v106 : BitVec 1 := Scalar.andi v103 v105
  let v92 : BitVec 32 := Scalar.divsi c62_i32 c64_i32_48
  let c1_i32_54 : BitVec 32 := 1#32
  let v107 : BitVec 32 := Scalar.subi v92 c1_i32_54
  let v108 : BitVec 32 := Scalar.select v106 v107 v92
  let v110 : BitVec 32 := Scalar.addi v109 v108
  let c0_i32_57 : BitVec 32 := 0#32
  let v112 : BitVec 1 := Scalar.cmpi .sgt v110 c0_i32_57
  let v113 : BitVec 32 := Scalar.extui v112
  let c0_i32_58 : BitVec 32 := 0#32
  let v114 : BitVec 1 := Scalar.cmpi .slt v110 c0_i32_58
  let v115 : BitVec 32 := Scalar.extui v114
  let v116 : BitVec 32 := Scalar.subi v113 v115
  let c8_i32_56 : BitVec 32 := 8#32
  let c0_i32_59 : BitVec 32 := 0#32
  let v117 : BitVec 1 := Scalar.cmpi .sgt c8_i32_56 c0_i32_59
  let v118 : BitVec 32 := Scalar.extui v117
  let c0_i32_60 : BitVec 32 := 0#32
  let v119 : BitVec 1 := Scalar.cmpi .slt c8_i32_56 c0_i32_60
  let v120 : BitVec 32 := Scalar.extui v119
  let v121 : BitVec 32 := Scalar.subi v118 v120
  let v122 : BitVec 1 := Scalar.cmpi .ne v116 v121
  let v123 : BitVec 32 := Scalar.remsi v110 c8_i32_56
  let c0_i32_61 : BitVec 32 := 0#32
  let v124 : BitVec 1 := Scalar.cmpi .ne v123 c0_i32_61
  let v125 : BitVec 1 := Scalar.andi v122 v124
  let v111 : BitVec 32 := Scalar.divsi v110 c8_i32_56
  let c1_i32_62 : BitVec 32 := 1#32
  let v126 : BitVec 32 := Scalar.subi v111 c1_i32_62
  let v127 : BitVec 32 := Scalar.select v125 v126 v111
  let c4096_i32_70 : BitVec 32 := 4096#32
  let v140 : BitVec 32 := Scalar.muli v127 c4096_i32_70
  let c62_i32_71 : BitVec 32 := 62#32
  let c64_i32_72 : BitVec 32 := 64#32
  let c0_i32_73 : BitVec 32 := 0#32
  let v141 : BitVec 1 := Scalar.cmpi .eq c64_i32_72 c0_i32_73
  let c1_i32_74 : BitVec 32 := 1#32
  let v142 : BitVec 32 := Scalar.select v141 c1_i32_74 c64_i32_72
  let v143 : BitVec 32 := Scalar.remsi c62_i32_71 v142
  let c0_i32_76 : BitVec 32 := 0#32
  let v145 : BitVec 1 := Scalar.cmpi .slt v143 c0_i32_76
  let c0_i32_77 : BitVec 32 := 0#32
  let v146 : BitVec 1 := Scalar.cmpi .slt v142 c0_i32_77
  let v147 : BitVec 1 := Scalar.xori v145 v146
  let c0_i32_75 : BitVec 32 := 0#32
  let v144 : BitVec 1 := Scalar.cmpi .ne v143 c0_i32_75
  let v148 : BitVec 1 := Scalar.andi v147 v144
  let v149 : BitVec 32 := Scalar.addi v143 v142
  let v150 : BitVec 32 := Scalar.select v148 v149 v143
  let c64_i32_78 : BitVec 32 := 64#32
  let v151 : BitVec 32 := Scalar.muli v150 c64_i32_78
  let v152 : BitVec 32 := Scalar.addi v140 v151
  v152
def k0_off39 (i : grid0.Coords) (c62_i32 : BitVec 32) (c62_i32_71 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_55 : BitVec 32 := 1#32
  let v109 : BitVec 32 := Scalar.muli v1 c1_i32_55
  let c0_i32_49 : BitVec 32 := 0#32
  let v93 : BitVec 1 := Scalar.cmpi .sgt c62_i32 c0_i32_49
  let v94 : BitVec 32 := Scalar.extui v93
  let c0_i32_50 : BitVec 32 := 0#32
  let v95 : BitVec 1 := Scalar.cmpi .slt c62_i32 c0_i32_50
  let v96 : BitVec 32 := Scalar.extui v95
  let v97 : BitVec 32 := Scalar.subi v94 v96
  let c64_i32_48 : BitVec 32 := 64#32
  let c0_i32_51 : BitVec 32 := 0#32
  let v98 : BitVec 1 := Scalar.cmpi .sgt c64_i32_48 c0_i32_51
  let v99 : BitVec 32 := Scalar.extui v98
  let c0_i32_52 : BitVec 32 := 0#32
  let v100 : BitVec 1 := Scalar.cmpi .slt c64_i32_48 c0_i32_52
  let v101 : BitVec 32 := Scalar.extui v100
  let v102 : BitVec 32 := Scalar.subi v99 v101
  let v103 : BitVec 1 := Scalar.cmpi .ne v97 v102
  let v104 : BitVec 32 := Scalar.remsi c62_i32 c64_i32_48
  let c0_i32_53 : BitVec 32 := 0#32
  let v105 : BitVec 1 := Scalar.cmpi .ne v104 c0_i32_53
  let v106 : BitVec 1 := Scalar.andi v103 v105
  let v92 : BitVec 32 := Scalar.divsi c62_i32 c64_i32_48
  let c1_i32_54 : BitVec 32 := 1#32
  let v107 : BitVec 32 := Scalar.subi v92 c1_i32_54
  let v108 : BitVec 32 := Scalar.select v106 v107 v92
  let v110 : BitVec 32 := Scalar.addi v109 v108
  let c0_i32_57 : BitVec 32 := 0#32
  let v112 : BitVec 1 := Scalar.cmpi .sgt v110 c0_i32_57
  let v113 : BitVec 32 := Scalar.extui v112
  let c0_i32_58 : BitVec 32 := 0#32
  let v114 : BitVec 1 := Scalar.cmpi .slt v110 c0_i32_58
  let v115 : BitVec 32 := Scalar.extui v114
  let v116 : BitVec 32 := Scalar.subi v113 v115
  let c8_i32_56 : BitVec 32 := 8#32
  let c0_i32_59 : BitVec 32 := 0#32
  let v117 : BitVec 1 := Scalar.cmpi .sgt c8_i32_56 c0_i32_59
  let v118 : BitVec 32 := Scalar.extui v117
  let c0_i32_60 : BitVec 32 := 0#32
  let v119 : BitVec 1 := Scalar.cmpi .slt c8_i32_56 c0_i32_60
  let v120 : BitVec 32 := Scalar.extui v119
  let v121 : BitVec 32 := Scalar.subi v118 v120
  let v122 : BitVec 1 := Scalar.cmpi .ne v116 v121
  let v123 : BitVec 32 := Scalar.remsi v110 c8_i32_56
  let c0_i32_61 : BitVec 32 := 0#32
  let v124 : BitVec 1 := Scalar.cmpi .ne v123 c0_i32_61
  let v125 : BitVec 1 := Scalar.andi v122 v124
  let v111 : BitVec 32 := Scalar.divsi v110 c8_i32_56
  let c1_i32_62 : BitVec 32 := 1#32
  let v126 : BitVec 32 := Scalar.subi v111 c1_i32_62
  let v127 : BitVec 32 := Scalar.select v125 v126 v111
  let c4096_i32_70 : BitVec 32 := 4096#32
  let v140 : BitVec 32 := Scalar.muli v127 c4096_i32_70
  let c64_i32_72 : BitVec 32 := 64#32
  let c0_i32_73 : BitVec 32 := 0#32
  let v141 : BitVec 1 := Scalar.cmpi .eq c64_i32_72 c0_i32_73
  let c1_i32_74 : BitVec 32 := 1#32
  let v142 : BitVec 32 := Scalar.select v141 c1_i32_74 c64_i32_72
  let v143 : BitVec 32 := Scalar.remsi c62_i32_71 v142
  let c0_i32_76 : BitVec 32 := 0#32
  let v145 : BitVec 1 := Scalar.cmpi .slt v143 c0_i32_76
  let c0_i32_77 : BitVec 32 := 0#32
  let v146 : BitVec 1 := Scalar.cmpi .slt v142 c0_i32_77
  let v147 : BitVec 1 := Scalar.xori v145 v146
  let c0_i32_75 : BitVec 32 := 0#32
  let v144 : BitVec 1 := Scalar.cmpi .ne v143 c0_i32_75
  let v148 : BitVec 1 := Scalar.andi v147 v144
  let v149 : BitVec 32 := Scalar.addi v143 v142
  let v150 : BitVec 32 := Scalar.select v148 v149 v143
  let c64_i32_78 : BitVec 32 := 64#32
  let v151 : BitVec 32 := Scalar.muli v150 c64_i32_78
  let v152 : BitVec 32 := Scalar.addi v140 v151
  let v153 : BitVec 32 := v152
  let c8_i32_63 : BitVec 32 := 8#32
  let c0_i32_64 : BitVec 32 := 0#32
  let v128 : BitVec 1 := Scalar.cmpi .eq c8_i32_63 c0_i32_64
  let c1_i32_65 : BitVec 32 := 1#32
  let v129 : BitVec 32 := Scalar.select v128 c1_i32_65 c8_i32_63
  let v130 : BitVec 32 := Scalar.remsi v110 v129
  let c0_i32_67 : BitVec 32 := 0#32
  let v132 : BitVec 1 := Scalar.cmpi .slt v130 c0_i32_67
  let c0_i32_68 : BitVec 32 := 0#32
  let v133 : BitVec 1 := Scalar.cmpi .slt v129 c0_i32_68
  let v134 : BitVec 1 := Scalar.xori v132 v133
  let c0_i32_66 : BitVec 32 := 0#32
  let v131 : BitVec 1 := Scalar.cmpi .ne v130 c0_i32_66
  let v135 : BitVec 1 := Scalar.andi v134 v131
  let v136 : BitVec 32 := Scalar.addi v130 v129
  let v137 : BitVec 32 := Scalar.select v135 v136 v130
  let c256_i32_69 : BitVec 32 := 256#32
  let v138 : BitVec 32 := Scalar.muli v137 c256_i32_69
  let v139 : BitVec 32 := v138
  ![v153.toNat, v139.toNat]
def k0_off39_at (r : Fin 2) : BitVec 32 × BitVec 32 :=
  if r.val < 1 then
    (62#32, 62#32)
  else
    (63#32, 63#32)
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_86 : BitVec 32 := 1#32
  let v173 : BitVec 32 := Scalar.muli v1 c1_i32_86
  let c63_i32 : BitVec 32 := 63#32
  let c0_i32_80 : BitVec 32 := 0#32
  let v157 : BitVec 1 := Scalar.cmpi .sgt c63_i32 c0_i32_80
  let v158 : BitVec 32 := Scalar.extui v157
  let c0_i32_81 : BitVec 32 := 0#32
  let v159 : BitVec 1 := Scalar.cmpi .slt c63_i32 c0_i32_81
  let v160 : BitVec 32 := Scalar.extui v159
  let v161 : BitVec 32 := Scalar.subi v158 v160
  let c64_i32_79 : BitVec 32 := 64#32
  let c0_i32_82 : BitVec 32 := 0#32
  let v162 : BitVec 1 := Scalar.cmpi .sgt c64_i32_79 c0_i32_82
  let v163 : BitVec 32 := Scalar.extui v162
  let c0_i32_83 : BitVec 32 := 0#32
  let v164 : BitVec 1 := Scalar.cmpi .slt c64_i32_79 c0_i32_83
  let v165 : BitVec 32 := Scalar.extui v164
  let v166 : BitVec 32 := Scalar.subi v163 v165
  let v167 : BitVec 1 := Scalar.cmpi .ne v161 v166
  let v168 : BitVec 32 := Scalar.remsi c63_i32 c64_i32_79
  let c0_i32_84 : BitVec 32 := 0#32
  let v169 : BitVec 1 := Scalar.cmpi .ne v168 c0_i32_84
  let v170 : BitVec 1 := Scalar.andi v167 v169
  let v156 : BitVec 32 := Scalar.divsi c63_i32 c64_i32_79
  let c1_i32_85 : BitVec 32 := 1#32
  let v171 : BitVec 32 := Scalar.subi v156 c1_i32_85
  let v172 : BitVec 32 := Scalar.select v170 v171 v156
  let v174 : BitVec 32 := Scalar.addi v173 v172
  let c8_i32_94 : BitVec 32 := 8#32
  let c0_i32_95 : BitVec 32 := 0#32
  let v192 : BitVec 1 := Scalar.cmpi .eq c8_i32_94 c0_i32_95
  let c1_i32_96 : BitVec 32 := 1#32
  let v193 : BitVec 32 := Scalar.select v192 c1_i32_96 c8_i32_94
  let v194 : BitVec 32 := Scalar.remsi v174 v193
  let c0_i32_98 : BitVec 32 := 0#32
  let v196 : BitVec 1 := Scalar.cmpi .slt v194 c0_i32_98
  let c0_i32_99 : BitVec 32 := 0#32
  let v197 : BitVec 1 := Scalar.cmpi .slt v193 c0_i32_99
  let v198 : BitVec 1 := Scalar.xori v196 v197
  let c0_i32_97 : BitVec 32 := 0#32
  let v195 : BitVec 1 := Scalar.cmpi .ne v194 c0_i32_97
  let v199 : BitVec 1 := Scalar.andi v198 v195
  let v200 : BitVec 32 := Scalar.addi v194 v193
  let v201 : BitVec 32 := Scalar.select v199 v200 v194
  let c256_i32_100 : BitVec 32 := 256#32
  let v202 : BitVec 32 := Scalar.muli v201 c256_i32_100
  v202
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_86 : BitVec 32 := 1#32
  let v173 : BitVec 32 := Scalar.muli v1 c1_i32_86
  let c63_i32 : BitVec 32 := 63#32
  let c0_i32_80 : BitVec 32 := 0#32
  let v157 : BitVec 1 := Scalar.cmpi .sgt c63_i32 c0_i32_80
  let v158 : BitVec 32 := Scalar.extui v157
  let c0_i32_81 : BitVec 32 := 0#32
  let v159 : BitVec 1 := Scalar.cmpi .slt c63_i32 c0_i32_81
  let v160 : BitVec 32 := Scalar.extui v159
  let v161 : BitVec 32 := Scalar.subi v158 v160
  let c64_i32_79 : BitVec 32 := 64#32
  let c0_i32_82 : BitVec 32 := 0#32
  let v162 : BitVec 1 := Scalar.cmpi .sgt c64_i32_79 c0_i32_82
  let v163 : BitVec 32 := Scalar.extui v162
  let c0_i32_83 : BitVec 32 := 0#32
  let v164 : BitVec 1 := Scalar.cmpi .slt c64_i32_79 c0_i32_83
  let v165 : BitVec 32 := Scalar.extui v164
  let v166 : BitVec 32 := Scalar.subi v163 v165
  let v167 : BitVec 1 := Scalar.cmpi .ne v161 v166
  let v168 : BitVec 32 := Scalar.remsi c63_i32 c64_i32_79
  let c0_i32_84 : BitVec 32 := 0#32
  let v169 : BitVec 1 := Scalar.cmpi .ne v168 c0_i32_84
  let v170 : BitVec 1 := Scalar.andi v167 v169
  let v156 : BitVec 32 := Scalar.divsi c63_i32 c64_i32_79
  let c1_i32_85 : BitVec 32 := 1#32
  let v171 : BitVec 32 := Scalar.subi v156 c1_i32_85
  let v172 : BitVec 32 := Scalar.select v170 v171 v156
  let v174 : BitVec 32 := Scalar.addi v173 v172
  let c0_i32_88 : BitVec 32 := 0#32
  let v176 : BitVec 1 := Scalar.cmpi .sgt v174 c0_i32_88
  let v177 : BitVec 32 := Scalar.extui v176
  let c0_i32_89 : BitVec 32 := 0#32
  let v178 : BitVec 1 := Scalar.cmpi .slt v174 c0_i32_89
  let v179 : BitVec 32 := Scalar.extui v178
  let v180 : BitVec 32 := Scalar.subi v177 v179
  let c8_i32_87 : BitVec 32 := 8#32
  let c0_i32_90 : BitVec 32 := 0#32
  let v181 : BitVec 1 := Scalar.cmpi .sgt c8_i32_87 c0_i32_90
  let v182 : BitVec 32 := Scalar.extui v181
  let c0_i32_91 : BitVec 32 := 0#32
  let v183 : BitVec 1 := Scalar.cmpi .slt c8_i32_87 c0_i32_91
  let v184 : BitVec 32 := Scalar.extui v183
  let v185 : BitVec 32 := Scalar.subi v182 v184
  let v186 : BitVec 1 := Scalar.cmpi .ne v180 v185
  let v187 : BitVec 32 := Scalar.remsi v174 c8_i32_87
  let c0_i32_92 : BitVec 32 := 0#32
  let v188 : BitVec 1 := Scalar.cmpi .ne v187 c0_i32_92
  let v189 : BitVec 1 := Scalar.andi v186 v188
  let v175 : BitVec 32 := Scalar.divsi v174 c8_i32_87
  let c1_i32_93 : BitVec 32 := 1#32
  let v190 : BitVec 32 := Scalar.subi v175 c1_i32_93
  let v191 : BitVec 32 := Scalar.select v189 v190 v175
  let c4096_i32_101 : BitVec 32 := 4096#32
  let v204 : BitVec 32 := Scalar.muli v191 c4096_i32_101
  let c63_i32_102 : BitVec 32 := 63#32
  let c64_i32_103 : BitVec 32 := 64#32
  let c0_i32_104 : BitVec 32 := 0#32
  let v205 : BitVec 1 := Scalar.cmpi .eq c64_i32_103 c0_i32_104
  let c1_i32_105 : BitVec 32 := 1#32
  let v206 : BitVec 32 := Scalar.select v205 c1_i32_105 c64_i32_103
  let v207 : BitVec 32 := Scalar.remsi c63_i32_102 v206
  let c0_i32_107 : BitVec 32 := 0#32
  let v209 : BitVec 1 := Scalar.cmpi .slt v207 c0_i32_107
  let c0_i32_108 : BitVec 32 := 0#32
  let v210 : BitVec 1 := Scalar.cmpi .slt v206 c0_i32_108
  let v211 : BitVec 1 := Scalar.xori v209 v210
  let c0_i32_106 : BitVec 32 := 0#32
  let v208 : BitVec 1 := Scalar.cmpi .ne v207 c0_i32_106
  let v212 : BitVec 1 := Scalar.andi v211 v208
  let v213 : BitVec 32 := Scalar.addi v207 v206
  let v214 : BitVec 32 := Scalar.select v212 v213 v207
  let c64_i32_109 : BitVec 32 := 64#32
  let v215 : BitVec 32 := Scalar.muli v214 c64_i32_109
  let v216 : BitVec 32 := Scalar.addi v204 v215
  v216
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S_, .f32⟩
  | .hbm, ⟨3, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Columns.lean ====
/-
  WHAT ONE COLUMN'S RUNNING SUM IS, and how the array lays the columns out (UNTRUSTED).

  The kernel's array is `[16384, 2048]`: four batches of 4096 rows laid end to end. `entry X r c` reads it at two
  numbers. `runSum x n` is the sum of the first `n` entries of a column `x`, started from zero and added up one entry
  after the other, in the order in which the kernel adds. `total X` is the array whose entry at a row is the running
  sum of the row's batch down to and including that row.

  Tile `(c, s)` of the SparseCores has the number `2 s + c`; it takes batch `(2 s + c) / 8` and, in it, the 256
  columns from `256 ((2 s + c) % 8)`. `tileCol X i l n` is entry `n` of its column `l`, `tileSum X i l n` the sum of the
  first `n`, and `sums X i n g` the vector of sixteen such sums: those of lanes `16 g … 16 g + 15`.
-/
module

public import proofs.«01_k».proof.Proof.Gen.KernelIdeal.Skeleton
public import Idealize.ShloMosaic.Lib.ValueLayout

@[expose] public section

noncomputable section

namespace Cert.Proof.Cumsum

open Cert.KernelIdeal Cert.KernelIdeal.Gen
open Idealize.ShloMosaic Idealize.ShloMosaic.ValueIdx

variable {F : FTy → Type} [FloatOps F]

/-- Entry `(r, c)` of the array, at two numbers. -/
def entry {α : Type} (X : S16384x2048.Idx → α) (r c : ℕ) : α :=
  X (ix2 (n0 := 16384) (n1 := 2048) (Fin.ofNat 16384 r) (Fin.ofNat 2048 c))

theorem entry_apply {α : Type} (X : S16384x2048.Idx → α) (y : S16384x2048.Idx) {r c : ℕ} (h0 : (y 0).val = r) (h1 : (y 1).val = c) :
    entry X r c = X y := by
  subst h0; subst h1
  unfold entry
  congr 1
  rw [eq_ix2 y]
  congr 1
  · exact Fin.ext (Nat.mod_eq_of_lt (y 0).isLt)
  · exact Fin.ext (Nat.mod_eq_of_lt (y 1).isLt)

/-- The zero the sums start from. -/
abbrev zeroF : F .f32 := Scalar.ofBits .f32 0x00000000#32

/-- The sum of the first `n` entries of a column, added up in order. -/
def runSum (x : ℕ → F .f32) : ℕ → F .f32
  | 0 => zeroF
  | n + 1 => FloatOps.addf (runSum x n) (x n)

theorem runSum_congr {x y : ℕ → F .f32} (n : ℕ) (h : ∀ k < n, x k = y k) : runSum x n = runSum y n := by
  induction n with
  | zero => rfl
  | succ n ih => rw [runSum, runSum, ih fun k hk => h k (by omega), h n (by omega)]

/-- The array of running sums: at a row, the sum of its batch's rows down to it. -/
def total (X : S16384x2048.Idx → F .f32) : S16384x2048.Idx → F .f32 :=
  fun y => runSum (fun n => entry X (4096 * ((y 0).val / 4096) + n) (y 1).val) ((y 0).val % 4096 + 1)

/-! ## A tile's columns -/

/-- The tile's number. -/
abbrev wid (i : grid0.Coords) : ℕ := (i 1).val * 2 + (i 0).val

theorem wid_lt (i : grid0.Coords) : wid i < 32 := by
  have h0 : (i 0).val < 2 := (i 0).isLt
  have h1 : (i 1).val < 16 := (i 1).isLt
  unfold wid; omega

/-- The first row of the tile's batch, and the tile's first column. -/
abbrev row0 (i : grid0.Coords) : ℕ := 4096 * (wid i / 8)
abbrev col0 (i : grid0.Coords) : ℕ := 256 * (wid i % 8)

/-- Entry `n` of the tile's column `l`, and the sum of its first `n`. -/
def tileCol (X : S16384x2048.Idx → F .f32) (i : grid0.Coords) (l n : ℕ) : F .f32 := entry X (row0 i + n) (col0 i + l)
def tileSum (X : S16384x2048.Idx → F .f32) (i : grid0.Coords) (l n : ℕ) : F .f32 := runSum (tileCol X i l) n

theorem tileSum_succ (X : S16384x2048.Idx → F .f32) (i : grid0.Coords) (l n : ℕ) :
    tileSum X i l (n + 1) = FloatOps.addf (tileSum X i l n) (tileCol X i l n) := rfl

/-- The sums of lane group `g`. -/
def sums (X : S16384x2048.Idx → F .f32) (i : grid0.Coords) (n g : ℕ) : FVec F S16 .f32 := fun l => tileSum X i (16 * g + (l 0).val) n

theorem sums_zero (X : S16384x2048.Idx → F .f32) (i : grid0.Coords) (g : ℕ) : sums X i 0 g = broadcast S16 (zeroF (F := F)) := rfl

/-- The array of running sums at row `n` of the tile's batch and its column `l`. -/
theorem total_apply (X : S16384x2048.Idx → F .f32) (i : grid0.Coords) (y : S16384x2048.Idx) {l n : ℕ} (hn : n < 4096)
    (h0 : (y 0).val = row0 i + n) (h1 : (y 1).val = col0 i + l) : total X y = tileSum X i l (n + 1) := by
  unfold total tileSum tileCol
  rw [h0, h1, show (row0 i + n) / 4096 = wid i / 8 by unfold row0; omega, show (row0 i + n) % 4096 = n by unfold row0; omega]

end Cert.Proof.Cumsum

end
-- ==== Proof.Places.lean ====
/-
  WHERE A TILE'S CHUNKS LIE (UNTRUSTED): chunk `t` of a tile is 64 rows by its 256 columns, rows `64 t … 64 t + 63` of its
  batch. The program spells the same rectangle in several ways (the first two copies, a trip's two chunks, the chunk
  two before and the one two after, the last two); each is `chunkOff` at its chunk number. The four guards say that a
  trip is not the first, or not the last.
-/
module

public import proofs.«01_k».proof.Proof.Columns

@[expose] public section

noncomputable section

namespace Cert.Proof.Cumsum

open Cert.KernelIdeal Cert.KernelIdeal.Gen
open Idealize.ShloMosaic Idealize.ShloMosaic.ValueIdx

theorem trips1 : k0_t1_loop.trips = 32 := by decide +kernel
theorem trips2 : k0_t2_loop.trips = 64 := by decide +kernel
theorem lt32 (k : Fin k0_t1_loop.trips) : k.val < 32 := k.isLt.trans_eq trips1
theorem lt64 (k : Fin k0_t2_loop.trips) : k.val < 64 := k.isLt.trans_eq trips2

/-- Where chunk `t` of the tile begins. -/
def chunkOff (i : grid0.Coords) (t : ℕ) : Fin 2 → ℕ := ![row0 i + 64 * t, col0 i]

theorem chunk_inb (i : grid0.Coords) (t : ℕ) (ht : t < 64) : ∀ a, chunkOff i t a + S64x256.size a ≤ S16384x2048.size a := by
  have hw := wid_lt i
  intro a
  match a with
  | 0 => show row0 i + 64 * t + 64 ≤ 16384; unfold row0; omega
  | 1 => show col0 i + 256 ≤ 2048; unfold col0; omega

/-- Chunk `t` as a rectangle of the array. -/
abbrev chunk (i : grid0.Coords) (t : Fin 64) : Rect S16384x2048 := Rect.unit (s := S16384x2048) (chunkOff i t.val) S64x256.size (chunk_inb i t.val t.isLt)

/-! ## The program's spellings of a chunk -/

theorem off1_eq : ∀ (i : grid0.Coords) (r : Fin 2), k0_off1 i (BitVec.ofNat 32 (64 * r.val)) = chunkOff i r.val := by decide +kernel
theorem off39_eq : ∀ (i : grid0.Coords) (r : Fin 2), k0_off39 i (BitVec.ofNat 32 (62 + r.val)) (BitVec.ofNat 32 (62 + r.val)) = chunkOff i (62 + r.val) := by
  decide +kernel
theorem off2_eq : ∀ (i : grid0.Coords) (k : Fin k0_t1_loop.trips) (r : Fin 2), k0_off2 i k (BitVec.ofNat 32 r.val) = chunkOff i (2 * k.val + r.val) := by
  decide +kernel
theorem off20_eq : ∀ (i : grid0.Coords) (k : Fin k0_t1_loop.trips), k.val + 1 < 32 → k0_off20 i k = chunkOff i (2 * k.val + 2) := by decide +kernel
theorem off38_eq : ∀ (i : grid0.Coords) (k : Fin k0_t1_loop.trips), k.val + 1 < 32 → k0_off38 i k = chunkOff i (2 * k.val + 3) := by decide +kernel

/-! ## The guards -/

theorem cond1_iff : ∀ k : Fin k0_t1_loop.trips, k0_cond1 k = 1#1 ↔ 1 ≤ k.val := by decide +kernel
theorem cond2_iff : ∀ k : Fin k0_t1_loop.trips, k0_cond2 k = 1#1 ↔ k.val + 1 < 32 := by decide +kernel
theorem cond3_iff : ∀ k : Fin k0_t1_loop.trips, k0_cond3 k = 1#1 ↔ 1 ≤ k.val := by decide +kernel
theorem cond4_iff : ∀ k : Fin k0_t1_loop.trips, k0_cond4 k = 1#1 ↔ k.val + 1 < 32 := by decide +kernel

end Cert.Proof.Cumsum

end
-- ==== Proof.Setting.lean ====
/-
  THE PROGRAM AS THE LAUNCH THEOREM SEES IT (UNTRUSTED): its labels, its SparseCore configuration, the resource algebra
  (the handshakes' rounds beside the counters of local transfers), the arrays' places, and a tile's thread.
-/
module

public import proofs.«01_k».proof.Proof.Places
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Cumsum

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's four semaphores are apart, and each is the kind of semaphore the launch takes it for. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' resource algebra, and it beside the transfers' counters. -/
abbrev UH : Type := URounds (GSem nD τ sig) ℕ
abbrev UU : Type := UH × Counters
abbrev EH : Emb UH (MT nD τ sig (HIx 1) (Elt F) ℕ UU ℕ) := embL

/-- The tile at coordinates `i`: its SparseCore, its subcore there, and its thread. -/
abbrev cV (i : grid0.Coords) : Fin τ.nSC := (i 0).castLE hcore0
abbrev jV (i : grid0.Coords) : Fin τ.nSub := (i 1).castLE hsub0

/-- The arrays: the argument, its rows laid end to end, the running sums so laid, the result. -/
abbrev aLoc (d : Dev nD) : Loc nD τ sig := (SparseCore.T d).loc main_arg0
abbrev xLoc (d : Dev nD) : Loc nD τ sig := (SparseCore.T d).loc main_v0
abbrev yLoc (d : Dev nD) : Loc nD τ sig := (SparseCore.T d).loc main_v1
abbrev oLoc (d : Dev nD) : Loc nD τ sig := (SparseCore.T d).loc main_v2

end Cert.Proof.Cumsum

end
-- ==== Proof.Rows.lean ====
/-
  ONE ROW AND ONE CHUNK OF RUNNING SUMS (UNTRUSTED): a trip of the inner loop adds row `r` of the chunk in the first
  buffer to the sixteen vectors of sums and stores them as row `r` of the second; sixty-four trips turn the chunk
  into its running sums.
-/
module

public import proofs.«01_k».proof.Proof.Setting

@[expose] public section

noncomputable section

namespace Cert.Proof.Cumsum

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Sixteen vectors of sums. -/
abbrev Vecs (F : FTy → Type) : Type := FVec F S16 .f32 × FVec F S16 .f32 × FVec F S16 .f32 × FVec F S16 .f32 × FVec F S16 .f32 × FVec F S16 .f32
  × FVec F S16 .f32 × FVec F S16 .f32 × FVec F S16 .f32 × FVec F S16 .f32 × FVec F S16 .f32 × FVec F S16 .f32 × FVec F S16 .f32 × FVec F S16 .f32
  × FVec F S16 .f32 × FVec F S16 .f32

/-- The sums of the first `n` rows, of all the tile's columns. -/
def allSums (X : S16384x2048.Idx → F .f32) (i : grid0.Coords) (n : ℕ) : Vecs F :=
  (sums X i n 0, sums X i n 1, sums X i n 2, sums X i n 3, sums X i n 4, sums X i n 5, sums X i n 6, sums X i n 7, sums X i n 8, sums X i n 9,
    sums X i n 10, sums X i n 11, sums X i n 12, sums X i n 13, sums X i n 14, sums X i n 15)

/-! ## The values of a row -/

/-- Lane group `g` of row `r` of a buffer: where the program's sixteen rectangles of a row begin. -/
theorem group_lt {g : ℕ} (hg : g < 16) (l : Fin 16) : 16 * g + l.val < 256 := by omega

section Values

variable (X : S16384x2048.Idx → F .f32) (i : grid0.Coords)

/-- What a buffer holds when it holds the tile's rows from `b` on. -/
def HoldsRows (b : ℕ) (w : S64x256.Idx → F .f32) : Prop := ∀ y, w y = tileCol X i (y 1).val (b + (y 0).val)

/-- What a buffer holds when its first `n` rows are the running sums of the tile's rows from `b` on. -/
def HoldsSums (b n : ℕ) (w : S64x256.Idx → F .f32) : Prop := ∀ y, (y 0).val < n → w y = tileSum X i (y 1).val (b + (y 0).val + 1)

/-- Adding row `r`'s lane group `g` to the sums of the rows before it. -/
theorem sums_next {b r g : ℕ} {off : Fin 2 → ℕ} (hoff : off = ![r, 16 * g]) (inb : ∀ a, off a + S1x16.size a ≤ S64x256.size a)
    {w : S64x256.Idx → F .f32} (hw : HoldsRows X i b w) :
    addf (sums X i (b + r) g) (shapeCast S16 (fun x => w ((Rect.unit (s := S64x256) off S1x16.size inb).emb x) : FVec F S1x16 .f32) shapeCasts_S1x16_S16)
      = sums X i (b + r + 1) g := by
  subst hoff
  funext l
  obtain ⟨j, rfl⟩ : ∃ j : Fin 16, l = ix1 j := ⟨l 0, eq_ix1 l⟩
  refine (congrArg (FloatOps.addf (tileSum X i (16 * g + j.val) (b + r)))
    ((shapeCast_1a_a_apply (a := 16) _ shapeCasts_S1x16_S16 j).trans (hw _))).trans ?_
  show FloatOps.addf (tileSum X i (16 * g + j.val) (b + r)) (tileCol X i (16 * g + 1 * j.val) (b + (r + 1 * 0))) = tileSum X i (16 * g + j.val) (b + r + 1)
  rw [Nat.one_mul, Nat.mul_zero, Nat.add_zero, tileSum_succ]

/-- A row's stored vector, read where it lands in the buffer. -/
theorem sums_stored {n r g : ℕ} {off : Fin 2 → ℕ} (hoff : off = ![r, 16 * g]) (inb : ∀ a, off a + S1x16.size a ≤ S64x256.size a)
    {v : FVec F S16 .f32} (hv : v = sums X i n g) (x : S1x16.Idx) :
    shapeCast S1x16 v shapeCasts_S16_S1x16 x = tileSum X i (((Rect.unit (s := S64x256) off S1x16.size inb).emb x) 1).val n := by
  subst hoff; subst hv
  obtain ⟨u, j, rfl⟩ : ∃ (u : Fin 1) (j : Fin 16), x = ix2 u j := ⟨x 0, x 1, eq_ix2 x⟩
  refine (shapeCast_a_1a_apply (a := 16) _ shapeCasts_S16_S1x16 u j).trans ?_
  show tileSum X i (16 * g + j.val) n = tileSum X i (16 * g + 1 * j.val) n
  rw [Nat.one_mul]

/-- An element of row `r` lies in its lane group. -/
theorem mem_group {r g : ℕ} {off : Fin 2 → ℕ} (hoff : off = ![r, 16 * g]) (inb : ∀ a, off a + S1x16.size a ≤ S64x256.size a) (y : S64x256.Idx)
    (h0 : (y 0).val = r) (h1 : (y 1).val / 16 = g) : y ∈ (Rect.unit (s := S64x256) off S1x16.size inb).set := by
  subst hoff
  refine Rect.mem_set_unit.mpr fun a => ?_
  match a with
  | 0 => show r ≤ (y 0).val ∧ (y 0).val < r + 1; omega
  | 1 => show 16 * g ≤ (y 1).val ∧ (y 1).val < 16 * g + 16; omega

/-- An element of another row lies in no lane group of row `r`. -/
theorem not_mem_group {r g : ℕ} {off : Fin 2 → ℕ} (hoff : off = ![r, 16 * g]) (inb : ∀ a, off a + S1x16.size a ≤ S64x256.size a) (y : S64x256.Idx)
    (h0 : (y 0).val ≠ r) : y ∉ (Rect.unit (s := S64x256) off S1x16.size inb).set := by
  subst hoff
  intro h
  have h := Rect.mem_set_unit.mp h 0
  have h1 : r ≤ (y 0).val := h.1
  have h2 : (y 0).val < r + 1 := h.2
  omega

/-- A store `p` is lane group `g` of row `r`, and stores the sums of `n` rows there. -/
structure IsGroup (r n g : ℕ) (p : View.Piece (Elt F) S64x256 .f32) : Prop where
  value : ∀ x : p.1.shape.Idx, p.2 x = tileSum X i ((p.1.emb x) 1).val n
  inside : ∀ y : S64x256.Idx, (y 0).val = r → (y 1).val / 16 = g → y ∈ p.1.set
  outside : ∀ y : S64x256.Idx, (y 0).val ≠ r → y ∉ p.1.set

theorem isGroup {r n g : ℕ} {off : Fin 2 → ℕ} (hoff : off = ![r, 16 * g]) (inb : ∀ a, off a + S1x16.size a ≤ S64x256.size a)
    {v : FVec F S16 .f32} (hv : v = sums X i n g) :
    IsGroup X i r n g ⟨Rect.unit (s := S64x256) off S1x16.size inb, shapeCast S1x16 v shapeCasts_S16_S1x16⟩ :=
  ⟨sums_stored X i hoff inb hv, mem_group hoff inb, not_mem_group hoff inb⟩

/-- The lane groups, in the order the executor lists their stores: the last first. -/
abbrev groups : List ℕ := [15, 14, 13, 12, 11, 10, 9, 8, 7, 6, 5, 4, 3, 2, 1, 0]

theorem mem_groups {g : ℕ} (h : g < 16) : g ∈ groups := by
  simp only [List.mem_cons, List.not_mem_nil, or_false]
  omega

/-- The stores of a row's sixteen lane groups, onto a buffer whose first `r` rows are running sums, make it one whose first `r + 1` rows are. -/
theorem holdsSums_succ {κ : Kind} {sp : Space} (v : View sig κ sp S64x256 .f32) {f : v.ty.Contents (Elt F)} {b r : ℕ} (hf : HoldsSums X i b r (v.read (Elt F) f))
    {L : List (View.Piece (Elt F) S64x256 .f32)} (hL : List.Forall₂ (IsGroup X i r (b + r + 1)) groups L) :
    HoldsSums X i b (r + 1) (v.read (Elt F) (v.writes (Elt F) f L)) := by
  have hall : ∀ (G : List ℕ) (L : List (View.Piece (Elt F) S64x256 .f32)), List.Forall₂ (IsGroup X i r (b + r + 1)) G L →
      (∀ p ∈ L, ∃ g, IsGroup X i r (b + r + 1) g p) ∧ ∀ g ∈ G, ∃ p ∈ L, IsGroup X i r (b + r + 1) g p := by
    intro G L h
    induction h with
    | nil => exact ⟨by simp, by simp⟩
    | cons h _ ih =>
      refine ⟨fun p hp => ?_, fun g hg => ?_⟩
      · rcases List.mem_cons.mp hp with rfl | hp
        · exact ⟨_, h⟩
        · exact ih.1 p hp
      · rcases List.mem_cons.mp hg with rfl | hg
        · exact ⟨_, List.mem_cons_self, h⟩
        · obtain ⟨p, hp, h'⟩ := ih.2 g hg
          exact ⟨p, List.mem_cons_of_mem _ hp, h'⟩
  obtain ⟨hval, hcov⟩ := hall _ _ hL
  intro y hy
  by_cases h : (y 0).val = r
  · have hy1 : (y 1).val < 256 := (y 1).isLt
    obtain ⟨p, hp, hg⟩ := hcov ((y 1).val / 16) (mem_groups (by omega))
    rw [View.read_writes_apply_of_pieces v f (fun y => tileSum X i (y 1).val (b + r + 1)) L (fun p hp => (hval p hp).choose_spec.value) y
      ⟨p, hp, hg.inside y h rfl⟩, h]
  · rw [View.read_writes_apply_of_forall_not_mem v f y L fun p hp => (hval p hp).choose_spec.outside y h]
    exact hf y (by omega)

end Values

/-! ## A trip of the inner loop -/

variable (X : S16384x2048.Idx → F .f32) (d : Dev nD) (i : grid0.Coords)
  (a2 : Memref sig .scVector .hbm S16384x2048 .f32) (h2 : a2.IsWhole) (a3 : Memref sig .scVector .hbm S16384x2048 .f32) (h3 : a3.IsWhole)
  (a4 : Memref sig .scVector .vmem S64x256 .f32) (h4 : a4.IsWhole) (a5 : Memref sig .scVector .vmem S64x256 .f32) (h5 : a5.IsWhole)
  (a6 : Memref sig .scVector .vmem S64x256 .f32) (h6 : a6.IsWhole) (a7 : Memref sig .scVector .vmem S64x256 .f32) (h7 : a7.IsWhole)
  (a8 a9 a10 a11 : DmaSems sig S_)
  (b0 b1 b2 b3 b4 b5 b6 b7 b8 b9 b10 b11 b12 b13 b14 b15 : FVec F S16 .f32) (w1 w2 w3 : BitVec 32) (w4 : BitVec 1)

/-- Before row `r` of a chunk: the sums of the rows before it, the chunk, and a buffer whose first `r` rows are its running sums. -/
def rowsInv (A O : Memref sig .scVector .vmem S64x256 .f32) (b : ℕ) (fA : Buf (Elt F) (A.view.loc (V d (cV i) (jV i)))) (r : ℕ) (a : Vecs F) : sProp 𝕄 :=
  iprop(⌜a = allSums X i (b + r)⌝ ∗ (A.view.loc (V d (cV i) (jV i)) ↦{fullShare} fA)
    ∗ ∃ f, ⌜HoldsSums X i b r (O.view.read (Elt F) f)⌝ ∗ (O.view.loc (V d (cV i) (jV i)) ↦{fullShare} f))

theorem row_step (b : ℕ) (r : Fin k0_t2_loop.trips) (fA : Buf (Elt F) (a4.view.loc (V d (cV i) (jV i)))) (fO : Buf (Elt F) (a6.view.loc (V d (cV i) (jV i))))
    (hA : HoldsRows X i b (a4.view.read (Elt F) fA)) (hO : HoldsSums X i b r.val (a6.view.read (Elt F) fO)) :
    iprop((a4.view.loc (V d (cV i) (jV i)) ↦{fullShare} fA) ∗ (a6.view.loc (V d (cV i) (jV i)) ↦{fullShare} fO) : sProp 𝕄)
      ⊢ wp frame (wpE (defs₀ (F := F)) 𝒱₀ (V d (cV i) (jV i)) none) Set.univ
          (k0_t2_body i a2 h2 a3 h3 a4 h4 a5 h5 a6 h6 a7 h7 a8 a9 a10 a11 b0 b1 b2 b3 b4 b5 b6 b7 b8 b9 b10 b11 b12 b13 b14 b15 w1 w2 w3 w4 r (allSums X i (b + r.val)))
          (rowsInv X d i a4 a6 b fA (r.val + 1)) := by
  unfold rowsInv allSums k0_t2_body
  iintro ⟨HA, HO⟩
  have step : ∀ {g : ℕ} {off : Fin 2 → ℕ} (hoff : off = ![r.val, 16 * g]) (inb : ∀ a, off a + S1x16.size a ≤ S64x256.size a),
      addf (sums X i (b + r.val) g) (shapeCast S16 (a4.view.readAt (Elt F) (Rect.unit (s := S64x256) off S1x16.size inb).toLoadRect fA : FVec F S1x16 .f32)
        shapeCasts_S1x16_S16) = sums X i (b + r.val + 1) g := fun hoff inb => sums_next X i hoff inb hA
  have h0 := step (g := 0) (k0_off4_eq r) (k0_off4_inb r)
  have h1 := step (g := 1) (k0_off5_eq r) (k0_off5_inb r)
  have h2 := step (g := 2) (k0_off6_eq r) (k0_off6_inb r)
  have h3 := step (g := 3) (k0_off7_eq r) (k0_off7_inb r)
  have h4 := step (g := 4) (k0_off8_eq r) (k0_off8_inb r)
  have h5 := step (g := 5) (k0_off9_eq r) (k0_off9_inb r)
  have h6 := step (g := 6) (k0_off10_eq r) (k0_off10_inb r)
  have h7 := step (g := 7) (k0_off11_eq r) (k0_off11_inb r)
  have h8 := step (g := 8) (k0_off12_eq r) (k0_off12_inb r)
  have h9 := step (g := 9) (k0_off13_eq r) (k0_off13_inb r)
  have h10 := step (g := 10) (k0_off14_eq r) (k0_off14_inb r)
  have h11 := step (g := 11) (k0_off15_eq r) (k0_off15_inb r)
  have h12 := step (g := 12) (k0_off16_eq r) (k0_off16_inb r)
  have h13 := step (g := 13) (k0_off17_eq r) (k0_off17_inb r)
  have h14 := step (g := 14) (k0_off18_eq r) (k0_off18_inb r)
  have h15 := step (g := 15) (k0_off19_eq r) (k0_off19_inb r)
  sl_exec
  sl_step
  iframe HA
  isplitr [HO]
  · ipureintro
    simp only [Prod.mk.injEq]
    exact ⟨h0, h1, h2, h3, h4, h5, h6, h7, h8, h9, h10, h11, h12, h13, h14, h15⟩
  · iexists _
    iframe HO
    ipureintro
    exact holdsSums_succ X i a6.view hO
      (.cons (isGroup X i (k0_off19_eq r) (k0_off19_inb r) h15)
      (.cons (isGroup X i (k0_off18_eq r) (k0_off18_inb r) h14) (.cons (isGroup X i (k0_off17_eq r) (k0_off17_inb r) h13) (.cons (isGroup X i (k0_off16_eq r) (k0_off16_inb r) h12)
      (.cons (isGroup X i (k0_off15_eq r) (k0_off15_inb r) h11) (.cons (isGroup X i (k0_off14_eq r) (k0_off14_inb r) h10) (.cons (isGroup X i (k0_off13_eq r) (k0_off13_inb r) h9)
      (.cons (isGroup X i (k0_off12_eq r) (k0_off12_inb r) h8) (.cons (isGroup X i (k0_off11_eq r) (k0_off11_inb r) h7) (.cons (isGroup X i (k0_off10_eq r) (k0_off10_inb r) h6)
      (.cons (isGroup X i (k0_off9_eq r) (k0_off9_inb r) h5) (.cons (isGroup X i (k0_off8_eq r) (k0_off8_inb r) h4) (.cons (isGroup X i (k0_off7_eq r) (k0_off7_inb r) h3)
      (.cons (isGroup X i (k0_off6_eq r) (k0_off6_inb r) h2) (.cons (isGroup X i (k0_off5_eq r) (k0_off5_inb r) h1) (.cons (isGroup X i (k0_off4_eq r) (k0_off4_inb r) h0)
      .nil))))))))))))))))

/-! ## The inner loop -/

theorem rows_trip (b : ℕ) (fA : Buf (Elt F) (a4.view.loc (V d (cV i) (jV i)))) (hA : HoldsRows X i b (a4.view.read (Elt F) fA))
    (r : Fin k0_t2_loop.trips) (acc : Vecs F) :
    rowsInv X d i a4 a6 b fA r.val acc
      ⊢ wp frame (wpE (defs₀ (F := F)) 𝒱₀ (V d (cV i) (jV i)) none) Set.univ (k0_t2_body i a2 h2 a3 h3 a4 h4 a5 h5 a6 h6 a7 h7 a8 a9 a10 a11 b0 b1 b2 b3 b4 b5 b6 b7 b8 b9 b10 b11 b12 b13 b14 b15 w1 w2 w3 w4 r acc) (rowsInv X d i a4 a6 b fA (r.val + 1)) := by
  conv_lhs => unfold rowsInv
  iintro ⟨%hacc, HA, %f, %hf, HO⟩
  subst hacc
  iapply (row_step X d i a2 h2 a3 h3 a4 h4 a5 h5 a6 h6 a7 h7 a8 a9 a10 a11 b0 b1 b2 b3 b4 b5 b6 b7 b8 b9 b10 b11 b12 b13 b14 b15 w1 w2 w3 w4 b r fA f hA hf)
  iframe HA HO

theorem rows_loop (b : ℕ) (fA : Buf (Elt F) (a4.view.loc (V d (cV i) (jV i)))) (fO : Buf (Elt F) (a6.view.loc (V d (cV i) (jV i))))
    (hA : HoldsRows X i b (a4.view.read (Elt F) fA)) :
    iprop((a4.view.loc (V d (cV i) (jV i)) ↦{fullShare} fA) ∗ (a6.view.loc (V d (cV i) (jV i)) ↦{fullShare} fO) : sProp 𝕄)
      ⊢ wp frame (wpE (defs₀ (F := F)) 𝒱₀ (V d (cV i) (jV i)) none) Set.univ
          (Scf.Loop.for k0_t2_loop k0_t2_ok (allSums X i b)
            (k0_t2_body i a2 h2 a3 h3 a4 h4 a5 h5 a6 h6 a7 h7 a8 a9 a10 a11 b0 b1 b2 b3 b4 b5 b6 b7 b8 b9 b10 b11 b12 b13 b14 b15 w1 w2 w3 w4))
          (rowsInv X d i a4 a6 b fA 64) := by
  iintro ⟨HA, HO⟩
  sl_for (rowsInv X d i a4 a6 b fA) $$ [HA HO]
  · intro r acc
    exact rows_trip X d i a2 h2 a3 h3 a4 h4 a5 h5 a6 h6 a7 h7 a8 a9 a10 a11 b0 b1 b2 b3 b4 b5 b6 b7 b8 b9 b10 b11 b12 b13 b14 b15 w1 w2 w3 w4 b fA hA r acc
  · isplitl
    · unfold rowsInv
      isplitr
      · ipureintro; rfl
      iframe HA
      iexists fO
      iframe HO
      ipureintro
      intro y hy
      exact absurd hy (Nat.not_lt_zero _)
    · iintro %x H
      iexact H

/-- The second inner loop is the first, of the other two buffers. -/
theorem t3_body_eq (s5 s6 s7 s8 s9 s10 s11 s12 s13 s14 s15 : FVec F S16 .f32) (w : BitVec 32) (w' : BitVec 1) (s0 s1 s2 s3 s4 : FVec F S16 .f32) (z : F .f32) :
    k0_t3_body i a2 h2 a3 h3 a4 h4 a5 h5 a6 h6 a7 h7 a8 a9 a10 a11 s5 s6 s7 s8 s9 s10 s11 s12 s13 s14 s15 w w' s0 s1 s2 s3 s4 z
      = k0_t2_body i a2 h2 a3 h3 a5 h5 a4 h4 a7 h7 a6 h6 a8 a9 a10 a11 b0 b1 b2 b3 b4 b5 b6 b7 b8 b9 b10 b11 b12 b13 b14 b15 w1 w2 w3 w4 := rfl

end Cert.Proof.Cumsum

end
-- ==== Proof.Copies.lean ====
/-
  THE FOUR COPIES OF A TRIP (UNTRUSTED): a chunk fetched into a buffer, its arrival awaited, a buffer of running sums
  written out to its chunk, and that awaited.

  A fetch in flight holds the chunk's part of the tile's share of the input; on landing the buffer holds the tile's rows
  (`HoldsRows`) and the share is whole again. A write-out in flight delivers the chunk of the output at its running
  sums (`total X`) and the buffer. `inSlot t` is the state of an input buffer whose next chunk is `t`, `outSlot t` that
  of an output buffer whose last chunk is `t - 2`.
-/
module

public import proofs.«01_k».proof.Proof.Rows
public import Idealize.ShloMosaic.Lib.Transfers

@[expose] public section

noncomputable section

namespace Cert.Proof.Cumsum

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The input and the output as a tile addresses them, and a chunk of either. -/
abbrev xM : Memref sig .scVector .hbm S16384x2048 .f32 := Memref.whole main_v0_scv
abbrev yM : Memref sig .scVector .hbm S16384x2048 .f32 := Memref.whole main_v1_scv
abbrev xChunk (i : grid0.Coords) (t : Fin 64) : Memref sig .scVector .hbm S64x256 .f32 := xM.slice (chunk i t) (fun _ => rfl)
abbrev yChunk (i : grid0.Coords) (t : Fin 64) : Memref sig .scVector .hbm S64x256 .f32 := yM.slice (chunk i t) (fun _ => rfl)

variable (X : S16384x2048.Idx → F .f32) (d : Dev nD) (i : grid0.Coords)

/-- The tile's thread. -/
abbrev thr : Thread nD τ := V d (cV i) (jV i)

/-- The input's chunk `t` at share `q`; the output's at contents `f`. -/
abbrev xPart (q : PosShare TreeShare) (t : Fin 64) : sProp 𝕄 := xLoc d ↦[(chunk i t).set]{q} (X : Buf (Elt F) (xLoc d))
abbrev yPart (t : Fin 64) (f : Buf (Elt F) (yLoc d)) : sProp 𝕄 := yLoc d ↦[(chunk i t).set]{fullShare} f

theorem set_xChunk (t : Fin 64) : (xChunk i t).view.set = (chunk i t).set := View.set_slice_whole _ _
theorem set_yChunk (t : Fin 64) : (yChunk i t).view.set = (chunk i t).set := View.set_slice_whole _ _

section Slots

variable (A : Memref sig .scVector .vmem S64x256 .f32) (sm : DmaSems sig S_) (q : PosShare TreeShare)

/-- The buffer at some contents; holding the rows from `b` on; holding their running sums. -/
abbrev anyBuf : sProp 𝕄 := iprop(∃ f, (A.view.loc (thr d i) ↦{fullShare} f))
abbrev rowsBuf (b : ℕ) : sProp 𝕄 := iprop(∃ f, ⌜HoldsRows X i b (A.view.read (Elt F) f)⌝ ∗ (A.view.loc (thr d i) ↦{fullShare} f))
abbrev sumsBuf (b : ℕ) : sProp 𝕄 := iprop(∃ f, ⌜HoldsSums X i b 64 (A.view.read (Elt F) f)⌝ ∗ (A.view.loc (thr d i) ↦{fullShare} f))
/-- The semaphore at zero. -/
abbrev atZero : sProp 𝕄 := semVal (thr d i, SemLoc.dma sm.sem) 0

/-- The fetch of chunk `t`, and the write-out of chunk `t`, in flight. -/
abbrev fetching (t : Fin 64) : sProp 𝕄 :=
  Transfers.Flight countersEmb (thr d i) (.dma sm.sem) (none : HIx 1) A.view.dmaCredit iprop(rowsBuf X d i A (64 * t.val) ∗ xPart X d i q t)
abbrev writing (t : Fin 64) : sProp 𝕄 :=
  Transfers.Flight countersEmb (thr d i) (.dma sm.sem) (none : HIx 1) (yChunk i t).view.dmaCredit iprop(yPart d i t (total X) ∗ anyBuf d i A)

/-- An input buffer whose next chunk is `t`: that chunk being fetched, or (past the last chunk) the buffer free. -/
def inSlot (t : ℕ) : sProp 𝕄 :=
  if h : t < 64 then iprop(fetching X d i A sm q ⟨t, h⟩ ∗ (xLoc d ↦[Finset.univ \ (chunk i ⟨t, h⟩).set]{q} (X : Buf (Elt F) (xLoc d))))
  else iprop(atZero d i sm ∗ anyBuf d i A ∗ (xLoc d ↦{q} (X : Buf (Elt F) (xLoc d))))

/-- An output buffer about to take chunk `t`: chunk `t - 2` being written out, or (before the third chunk) the buffer free. -/
def outSlot (t : ℕ) : sProp 𝕄 :=
  if h : 2 ≤ t ∧ t - 2 < 64 then writing X d i A sm ⟨t - 2, h.2⟩ else iprop(atZero d i sm ∗ anyBuf d i A)

end Slots

/-- What a fetched chunk reads. -/
theorem holdsRows_fetched (A : Memref sig .scVector .vmem S64x256 .f32) (t : Fin 64) (f : Buf (Elt F) (A.view.loc (thr d i))) :
    HoldsRows X i (64 * t.val) (A.view.read (Elt F) (A.view.write (Elt F) f ((xChunk i t).view.read (Elt F) (X : Buf (Elt F) (xLoc d))) Finset.univ)) := by
  intro y
  rw [View.read_write_univ]
  have h0 : (y 0).val < 64 := (y 0).isLt
  refine (entry_apply X ((chunk i t).emb y) ?_ ?_).symm
  · show row0 i + 64 * t.val + 1 * (y 0).val = _; omega
  · show col0 i + 1 * (y 1).val = _; omega

/-- What a chunk of running sums written out leaves there. -/
theorem total_written (A : Memref sig .scVector .vmem S64x256 .f32) (t : Fin 64) (f : Buf (Elt F) (A.view.loc (thr d i))) (g : Buf (Elt F) (yLoc d))
    (hf : HoldsSums X i (64 * t.val) 64 (A.view.read (Elt F) f)) (y : S16384x2048.Idx) (hy : y ∈ (chunk i t).set) :
    (yChunk i t).view.write (Elt F) g (A.view.read (Elt F) f) Finset.univ y = total X y := by
  obtain ⟨x, rfl⟩ := (chunk i t).exists_idx_of_mem hy
  have hx0 : (x 0).val < 64 := (x 0).isLt
  have ht := t.isLt
  refine (congrFun (View.read_write_univ (v := (yChunk i t).view) g (A.view.read (Elt F) f)) x).trans ((hf x hx0).trans ?_)
  refine (total_apply X i _ (n := 64 * t.val + (x 0).val) (l := (x 1).val) (by omega) ?_ ?_).symm
  · show row0 i + 64 * t.val + 1 * (x 0).val = _; omega
  · show col0 i + 1 * (x 1).val = _; omega

/-! ## The operations -/

variable (O : CellTallies nD τ sig (HIx 1)) (W : Waits sig (HIx 1))

/-- What the tile owes, the waits recorded since `W` at no index. -/
abbrev owing : sProp 𝕄 := iprop(∃ W', ⌜∀ p ∈ W', p ∈ W ∨ p.2 = none⌝ ∗ owes (thr d i) O W')

/-- The evidence that the tile may wait while it owes `O`. -/
abbrev mayWaits : sProp 𝕄 := Transfers.MayWaits (thr d i) (none : HIx 1) O

section Ops

variable {α : Type} {k : PUnit → Prog (TpuEff nD τ sig (Elt F) Λ₀ (.scVector (cV i) (jV i))) α} {Q : α → sProp (MT nD τ sig (HIx 1) (Elt F) ℕ UU ℕ)}
  (A : Memref sig .scVector .vmem S64x256 .f32) (sm : DmaSems sig S_) (q : PosShare TreeShare)

/-- A chunk is fetched into a free input buffer. -/
theorem wp_fetch {t : ℕ} (ht : t < 64) {off : Fin 2 → ℕ} (hoff : off = chunkOff i t) {inb : ∀ a, off a + S64x256.size a ≤ S16384x2048.size a}
    {hsrc : (xM.slice (Rect.unit (s := S16384x2048) off S64x256.size inb) (fun _ => rfl)).view.WordExact} {hdst : A.view.WordExact}
    {hsem : DmaTarget.Typed (nD := nD) (p := .scVector (cV i) (jV i)) .hbm (.dma sm.sem) (.here A)} :
    iprop(atZero d i sm ∗ anyBuf d i A ∗ (xLoc d ↦{q} (X : Buf (Elt F) (xLoc d))))
      ⊢ iprop((inSlot X d i A sm q t -∗ wp frame (wpE (defs₀ (F := F)) 𝒱₀ (thr d i) none) Set.univ (k ⟨⟩) Q)
          -∗ wp frame (wpE (defs₀ (F := F)) 𝒱₀ (thr d i) none) Set.univ
            (.op (.enqueueDma (xM.slice (Rect.unit (s := S16384x2048) off S64x256.size inb) (fun _ => rfl)) (.here A) (.dma sm.sem) hsrc hdst hsem) k) Q) := by
  subst hoff
  iintro ⟨Hz, ⟨%f, HA⟩, HX⟩ Hk
  ihave HX' := (pointsTo_split_subset (Finset.subset_univ (chunk i ⟨t, ht⟩).set)).1 $$ HX
  icases HX' with ⟨HX, HXr⟩
  iapply (Transfers.wp_dmaLocal countersEmb 𝒱₀ (thr d i) none (src := xChunk i ⟨t, ht⟩) (fs := (X : Buf (Elt F) (xLoc d))) (q := q) (Sd := Finset.univ) (fd := f)
    (none : HIx 1) A.view.dmaCredit rfl (View.dmaCredit_pos _ (by decide)) (Finset.subset_univ _)) $$ [HX HA Hz]
  · iframe HA Hz
    iapply (Entails.of_eq (show (xPart X d i q ⟨t, ht⟩ : sProp 𝕄) = (xLoc d ↦[(xChunk i ⟨t, ht⟩).view.set]{q} (X : Buf (Elt F) (xLoc d))) by rw [set_xChunk]))
    iexact HX
  iintro HF
  iapply Hk
  unfold inSlot
  rw [dif_pos ht]
  iframe HXr
  iapply (Transfers.Flight_mono countersEmb (thr d i) ?hmono) $$ HF
  case hmono =>
    iintro ⟨HA, HX⟩
    isplitl [HA]
    · iexists _
      iframe HA
      ipureintro
      exact holdsRows_fetched X d i A ⟨t, ht⟩ f
    · iapply (Entails.of_eq (show (xLoc d ↦[(xChunk i ⟨t, ht⟩).view.set]{q} (X : Buf (Elt F) (xLoc d)) : sProp 𝕄) = xPart X d i q ⟨t, ht⟩ by rw [set_xChunk]))
      iexact HX

/-- A fetched chunk arrives. -/
theorem wp_arrive {t : ℕ} (ht : t < 64) {s' : Shape} {e' : EltTy} {sp' : Space} {srcw : Memref sig .scVector sp' s' e'} {hsrc : srcw.view.WordExact} {hdst : A.view.WordExact} :
    iprop(mayWaits d i O ∗ inSlot X d i A sm q t ∗ owing d i O W)
      ⊢ iprop((iprop(rowsBuf X d i A (64 * t) ∗ atZero d i sm ∗ (xLoc d ↦{q} (X : Buf (Elt F) (xLoc d))) ∗ owing d i O W)
            -∗ wp frame (wpE (defs₀ (F := F)) 𝒱₀ (thr d i) none) Set.univ (k ⟨⟩) Q)
          -∗ wp frame (wpE (defs₀ (F := F)) 𝒱₀ (thr d i) none) Set.univ (.op (.waitDma2 sm.sem srcw A hsrc hdst) k) Q) := by
  unfold inSlot
  rw [dif_pos ht]
  iintro ⟨#Hmw, ⟨HF, HXr⟩, ⟨%W', %hW', HO⟩⟩ Hk
  iapply (Transfers.wp_waitLocalO countersEmb 𝒱₀ (thr d i) none (none : HIx 1) rfl) $$ [HF HO]
  · iframe HF HO
    iapply (Transfers.MayWaits.elim (SemLoc.dma sm.sem)); iexact Hmw
  iintro ⟨⟨HA, HX⟩, Hz, HO⟩
  iapply Hk
  iframe HA Hz
  isplitl [HX HXr]
  · iapply (pointsTo_split_subset (Finset.subset_univ (chunk i ⟨t, ht⟩).set)).2
    iframe HX HXr
  · iexists _
    iframe HO
    ipureintro
    intro p hp
    rcases Finset.mem_insert.mp hp with rfl | hp
    · exact Or.inr rfl
    · exact hW' p hp

/-- A buffer of running sums is written out to its chunk. -/
theorem wp_write {t : ℕ} (ht : t < 64) {off : Fin 2 → ℕ} (hoff : off = chunkOff i t) (hA : A.view.set = Finset.univ) {inb : ∀ a, off a + S64x256.size a ≤ S16384x2048.size a}
    {hdst : (yM.slice (Rect.unit (s := S16384x2048) off S64x256.size inb) (fun _ => rfl)).view.WordExact} {hsrc : A.view.WordExact}
    {hsem : DmaTarget.Typed (nD := nD) (p := .scVector (cV i) (jV i)) .vmem (.dma sm.sem) (.here (yM.slice (Rect.unit (s := S16384x2048) off S64x256.size inb) (fun _ => rfl)))} :
    iprop(atZero d i sm ∗ sumsBuf X d i A (64 * t) ∗ ∃ g, yPart d i ⟨t, ht⟩ g)
      ⊢ iprop((outSlot X d i A sm (t + 2) -∗ wp frame (wpE (defs₀ (F := F)) 𝒱₀ (thr d i) none) Set.univ (k ⟨⟩) Q)
          -∗ wp frame (wpE (defs₀ (F := F)) 𝒱₀ (thr d i) none) Set.univ
            (.op (.enqueueDma A (.here (yM.slice (Rect.unit (s := S16384x2048) off S64x256.size inb) (fun _ => rfl))) (.dma sm.sem) hsrc hdst hsem) k) Q) := by
  subst hoff
  iintro ⟨Hz, ⟨%f, %hf, HA⟩, ⟨%g, Hy⟩⟩ Hk
  iapply (Transfers.wp_dmaLocal countersEmb 𝒱₀ (thr d i) none (dst := yChunk i ⟨t, ht⟩) (fs := f) (q := fullShare) (Sd := (chunk i ⟨t, ht⟩).set) (fd := g)
    (none : HIx 1) (yChunk i ⟨t, ht⟩).view.dmaCredit rfl (View.dmaCredit_pos _ (by decide)) (by rw [set_yChunk])) $$ [HA Hy Hz]
  · iframe Hy Hz
    rw [hA]
    iexact HA
  iintro HF
  iapply Hk
  unfold outSlot
  rw [dif_pos (show 2 ≤ t + 2 ∧ t + 2 - 2 < 64 from ⟨by omega, by omega⟩)]
  iapply (Transfers.Flight_mono countersEmb (thr d i) ?hmono) $$ HF
  case hmono =>
    rw [hA]
    iintro ⟨Hy, HA⟩
    isplitl [Hy]
    · iapply (Entails.of_eq (pointsTo_congr fun y hy => total_written X d i A ⟨t, ht⟩ f g hf y hy))
      iexact Hy
    · iexists f
      iexact HA

/-- A written chunk is done. -/
theorem wp_done {t : ℕ} (ht : 2 ≤ t ∧ t - 2 < 64) {s' : Shape} {e' : EltTy} {sp' : Space} {srcw : Memref sig .scVector sp' s' e'} {off : Fin 2 → ℕ}
    {inb : ∀ a, off a + S64x256.size a ≤ S16384x2048.size a} {hsrc : srcw.view.WordExact}
    {hdst : (yM.slice (Rect.unit (s := S16384x2048) off S64x256.size inb) (fun _ => rfl)).view.WordExact} :
    iprop(mayWaits d i O ∗ outSlot X d i A sm t ∗ owing d i O W)
      ⊢ iprop((iprop(yPart d i ⟨t - 2, ht.2⟩ (total X) ∗ atZero d i sm ∗ anyBuf d i A ∗ owing d i O W)
            -∗ wp frame (wpE (defs₀ (F := F)) 𝒱₀ (thr d i) none) Set.univ (k ⟨⟩) Q)
          -∗ wp frame (wpE (defs₀ (F := F)) 𝒱₀ (thr d i) none) Set.univ
            (.op (.waitDma2 sm.sem srcw (yM.slice (Rect.unit (s := S16384x2048) off S64x256.size inb) (fun _ => rfl)) hsrc hdst) k) Q) := by
  unfold outSlot
  rw [dif_pos ht]
  iintro ⟨#Hmw, HF, ⟨%W', %hW', HO⟩⟩ Hk
  iapply (Transfers.wp_waitLocalO countersEmb 𝒱₀ (thr d i) none (none : HIx 1) rfl) $$ [HF HO]
  · iframe HF HO
    iapply (Transfers.MayWaits.elim (SemLoc.dma sm.sem)); iexact Hmw
  iintro ⟨⟨Hy, HA⟩, Hz, HO⟩
  iapply Hk
  iframe Hy Hz HA
  iexists _
  iframe HO
  ipureintro
  intro p hp
  rcases Finset.mem_insert.mp hp with rfl | hp
  · exact Or.inr rfl
  · exact hW' p hp

end Ops

end Cert.Proof.Cumsum

end
-- ==== Proof.Trip.lean ====
/-
  A TRIP OF THE OUTER LOOP (UNTRUSTED): two chunks, each arriving in its input buffer, turned into running sums in its
  output buffer, written out, with the fetch of the chunk after next started. The pieces below follow the program's own
  parts; each is stated against what comes after it.
-/
module

public import proofs.«01_k».proof.Proof.Copies

@[expose] public section

noncomputable section

namespace Cert.Proof.Cumsum

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The chunks not yet written, and those written -/

/-- The output's chunks from `n` on, at some contents. -/
def todo (d : Dev nD) (i : grid0.Coords) (n : ℕ) : sProp 𝕄 := bigSep (Finset.univ.filter fun t : Fin 64 => n ≤ t.val) fun t => iprop(∃ g, yPart d i t g)

/-- The output's chunks below `n`, at their running sums. -/
def done (X : S16384x2048.Idx → F .f32) (d : Dev nD) (i : grid0.Coords) (n : ℕ) : sProp 𝕄 :=
  bigSep (Finset.univ.filter fun t : Fin 64 => t.val < n) fun t => yPart d i t (total X)

theorem todo_next (d : Dev nD) (i : grid0.Coords) {n : ℕ} (hn : n < 64) :
    (todo (F := F) d i n) ⊢ iprop((∃ g, yPart d i ⟨n, hn⟩ g) ∗ todo d i (n + 1)) := by
  unfold todo
  have h : (Finset.univ.filter fun t : Fin 64 => n ≤ t.val) = insert ⟨n, hn⟩ (Finset.univ.filter fun t : Fin 64 => n + 1 ≤ t.val) := by
    ext t
    simp only [Finset.mem_filter, Finset.mem_univ, true_and, Finset.mem_insert, Fin.ext_iff]
    omega
  exact Entails.of_eq ((congrArg (fun s => bigSep s _) h).trans (SparseCore.bigSep_insert' (by simp)))

theorem done_next (X : S16384x2048.Idx → F .f32) (d : Dev nD) (i : grid0.Coords) {n : ℕ} (hn : n < 64) :
    iprop(yPart d i ⟨n, hn⟩ (total X) ∗ done X d i n) ⊢ done X d i (n + 1) := by
  unfold done
  have h : (Finset.univ.filter fun t : Fin 64 => t.val < n + 1) = insert ⟨n, hn⟩ (Finset.univ.filter fun t : Fin 64 => t.val < n) := by
    ext t
    simp only [Finset.mem_filter, Finset.mem_univ, true_and, Finset.mem_insert, Fin.ext_iff]
    omega
  exact Entails.of_eq ((congrArg (fun s => bigSep s fun t => yPart d i t (total X)) h).trans (SparseCore.bigSep_insert' (by simp))).symm

/-! ## Free buffers -/

theorem inSlot_free (X : S16384x2048.Idx → F .f32) (d : Dev nD) (i : grid0.Coords) (A : Memref sig .scVector .vmem S64x256 .f32) (sm : DmaSems sig S_)
    (q : PosShare TreeShare) {t : ℕ} (ht : ¬ t < 64) :
    inSlot X d i A sm q t ⊣⊢ iprop(atZero d i sm ∗ anyBuf d i A ∗ (xLoc d ↦{q} (X : Buf (Elt F) (xLoc d))) : sProp 𝕄) := by
  unfold inSlot
  rw [dif_neg ht]

theorem outSlot_free (X : S16384x2048.Idx → F .f32) (d : Dev nD) (i : grid0.Coords) (A : Memref sig .scVector .vmem S64x256 .f32) (sm : DmaSems sig S_)
    {t : ℕ} (ht : ¬ (2 ≤ t ∧ t - 2 < 64)) : outSlot X d i A sm t ⊣⊢ iprop(atZero d i sm ∗ anyBuf d i A : sProp 𝕄) := by
  unfold outSlot
  rw [dif_neg ht]

/-! ## The sums restart at a first chunk only -/

/-- Whether the program restarts the sums at chunk number `v`: `v` modulo 64 is zero. -/
def restarts (v : BitVec 32) : BitVec 1 :=
  let n : BitVec 32 := Scalar.select (Scalar.cmpi .eq 64#32 0#32) 1#32 64#32
  let r : BitVec 32 := Scalar.remsi v n
  Scalar.cmpi .eq (Scalar.select (Scalar.andi (Scalar.xori (Scalar.cmpi .slt r 0#32) (Scalar.cmpi .slt n 0#32)) (Scalar.cmpi .ne r 0#32)) (Scalar.addi r n) r) 0#32

theorem restarts_even (k : Fin k0_t1_loop.trips) : restarts (Scalar.addi (Scalar.muli 2#32 (Scf.iv 0#32 1#32 k)) 0#32) = 1#1 → k.val = 0 := by
  revert k
  decide +kernel

theorem restarts_odd (k : Fin k0_t1_loop.trips) : restarts (Scalar.addi (Scalar.muli 2#32 (Scf.iv 0#32 1#32 k)) 1#32) ≠ 1#1 := by
  revert k
  decide +kernel

/-- Sums restarted only when they are of no row are the sums. -/
theorem select_sums (X : S16384x2048.Idx → F .f32) (i : grid0.Coords) {b : ℕ} {w : BitVec 1} (h : w = 1#1 → b = 0) (g : ℕ) :
    Scalar.select w (broadcast S16 (Scalar.ofBits .f32 0x00000000#32)) (sums X i b g) = sums X i b g := by
  unfold Scalar.select
  split
  · rename_i hw
    rw [h hw, sums_zero]
  · rfl

/-! ## The parts of a trip -/

section Parts

variable (X : S16384x2048.Idx → F .f32) (d : Dev nD) (i : grid0.Coords) (O : CellTallies nD τ sig (HIx 1)) (W : Waits sig (HIx 1))
  (h2 : (xM).IsWhole) (h3 : (yM).IsWhole)
  (a4 : Memref sig .scVector .vmem S64x256 .f32) (h4 : a4.IsWhole) (a5 : Memref sig .scVector .vmem S64x256 .f32) (h5 : a5.IsWhole)
  (a6 : Memref sig .scVector .vmem S64x256 .f32) (h6 : a6.IsWhole) (a7 : Memref sig .scVector .vmem S64x256 .f32) (h7 : a7.IsWhole)
  (a8 a9 a10 a11 : DmaSems sig S_) (q : PosShare TreeShare) (k : Fin k0_t1_loop.trips)
  {α : Type} {Q : α → sProp (MT nD τ sig (HIx 1) (Elt F) ℕ UU ℕ)}

/-- The tile's program from here on. -/
abbrev WP (Q : α → sProp (MT nD τ sig (HIx 1) (Elt F) ℕ UU ℕ)) (p : Prog (TpuEff nD τ sig (Elt F) Λ₀ (.scVector (cV i) (jV i))) α) : sProp 𝕄 :=
  wp frame (wpE (defs₀ (F := F)) 𝒱₀ (thr d i) none) Set.univ p Q

/-- A first part with its own specification, then the rest. -/
theorem wp_then {β : Type} {R H : sProp (MT nD τ sig (HIx 1) (Elt F) ℕ UU ℕ)} {p : Prog (TpuEff nD τ sig (Elt F) Λ₀ (.scVector (cV i) (jV i))) β}
    {Φ : β → sProp (MT nD τ sig (HIx 1) (Elt F) ℕ UU ℕ)} {kk : β → Prog (TpuEff nD τ sig (Elt F) Λ₀ (.scVector (cV i) (jV i))) α}
    (hp : R ⊢ WP d i Φ p) (hk : ∀ a, iprop(Φ a ∗ H) ⊢ WP d i Q (kk a)) : R ⊢ iprop(H -∗ WP d i Q (p >>= kk)) :=
  BIClass.wand_intro ((sep_mono_left hp).trans ((wp_frame_r _ _ _).trans ((wp_mono _ _ _ hk).trans (Entails.of_eq (wp_bind ..).symm))))

/-- Both buffers of a chunk ready: the rows in, the last write-out done. -/
abbrev ready (A B : Memref sig .scVector .vmem S64x256 .f32) (sa sb : DmaSems sig S_) (t : ℕ) : sProp 𝕄 :=
  iprop((rowsBuf X d i A (64 * t) ∗ atZero d i sa ∗ (xLoc d ↦{q} (X : Buf (Elt F) (xLoc d)))) ∗ (atZero d i sb ∗ anyBuf d i B) ∗ done X d i (t - 1) ∗ owing d i O W)

theorem wp_ready0 (v1 v221 v240 v257 c8 : BitVec 32) (v258 : BitVec 1) (c1 : BitVec 32)
    {kk : (Σ' (v290 : BitVec 32) (v291 : BitVec 32), BitVec 1) → Prog (TpuEff nD τ sig (Elt F) Λ₀ (.scVector (cV i) (jV i))) α} :
    iprop(mayWaits d i O ∗ inSlot X d i a4 a8 q (2 * k.val) ∗ outSlot X d i a6 a10 (2 * k.val) ∗ done X d i (2 * k.val - 2) ∗ owing d i O W)
      ⊢ iprop((∀ (v290 v291 : BitVec 32) (v296 : BitVec 1), ⌜Scalar.cmpi .eq (Scalar.select v296 (Scalar.addi v291 v290) v291) 0#32 = restarts v221⌝
              -∗ ready X d i O W q a4 a6 a8 a10 (2 * k.val) -∗ WP d i Q (kk ⟨v290, v291, v296⟩))
          -∗ WP d i Q (k0_part10 i xM h2 yM h3 a4 h4 a5 h5 a6 h6 a7 h7 a8 a9 a10 a11 v1 k v221 v240 v257 c8 v258 c1 >>= kk)) := by
  rw [k0_part10_eq_skeleton]
  unfold k0_part10_skel
  simp only [Prog.lift, Prog.bind_op, Prog.bind_ret, Prog.pure_eq_ret, Prog.bind_assoc]
  iintro ⟨#Hmw, Hi, Ho, Hd, HO⟩ Hk
  iapply (wp_arrive X d i O W a4 a8 q (t := 2 * k.val) (by have := lt32 k; omega)) $$ [Hi HO]
  · iframe Hi HO Hmw
  iintro ⟨Hr, Hz, HX, HO⟩
  by_cases hc : k0_cond1 k = 1#1
  · have hk := (cond1_iff k).1 hc
    have hk' := lt32 k
    rw [dif_pos hc, k0_part1_eq_skeleton]
    unfold k0_part1_skel
    simp only [Prog.lift, Prog.bind_op, Prog.bind_ret, Prog.pure_eq_ret, Prog.bind_assoc]
    iapply (wp_done X d i O W a6 a10 (t := 2 * k.val) (by omega)) $$ [Ho HO]
    · iframe Ho HO Hmw
    iintro ⟨Hy, Hzo, Hb, HO⟩
    iapply Hk $$ %_ %_ %_ [] [Hr Hz HX Hy Hzo Hb HO Hd]
    · ipureintro; rfl
    · iframe Hr Hz HX Hzo Hb HO
      rw [show 2 * k.val - 1 = 2 * k.val - 2 + 1 by omega]
      iapply (done_next X d i (n := 2 * k.val - 2) (by omega)) $$ [Hy Hd]
      iframe Hy Hd
  · have hk : k.val = 0 := by have := (cond1_iff k).not.1 hc; omega
    rw [dif_neg hc]
    simp only [Prog.lift, Prog.bind_op, Prog.bind_ret, Prog.pure_eq_ret, Prog.bind_assoc]
    ihave Ho := (outSlot_free X d i a6 a10 (t := 2 * k.val) (by omega)).1 $$ Ho
    iapply Hk $$ %_ %_ %_ [] [Hr Hz HX Ho HO Hd]
    · ipureintro; rfl
    · rw [hk]
      iframe Hr Hz HX Ho HO Hd

theorem wp_ready1 {b : ℕ} (v1 v403 v452 c64 : BitVec 32) (v453 : BitVec 1) (hr : restarts v403 = 1#1 → b = 0)
    {kk : (Σ' (v481 : BitVec 1) (v483 : FVec F S16 .f32) (v485 : FVec F S16 .f32) (v487 : FVec F S16 .f32) (v489 : FVec F S16 .f32) (v491 : FVec F S16 .f32), F .f32) → Prog (TpuEff nD τ sig (Elt F) Λ₀ (.scVector (cV i) (jV i))) α} :
    iprop(mayWaits d i O ∗ inSlot X d i a5 a9 q (2 * k.val + 1) ∗ outSlot X d i a7 a11 (2 * k.val + 1) ∗ done X d i (2 * k.val + 1 - 2) ∗ owing d i O W)
      ⊢ iprop((ready X d i O W q a5 a7 a9 a11 (2 * k.val + 1) -∗ WP d i Q (kk ⟨restarts v403, sums X i b 0, sums X i b 1, sums X i b 2, sums X i b 3, sums X i b 4, Scalar.ofBits .f32 0x00000000#32⟩))
          -∗ WP d i Q (k0_part15 i xM h2 yM h3 a4 h4 a5 h5 a6 h6 a7 h7 a8 a9 a10 a11 v1 k (sums X i b 0) (sums X i b 1) (sums X i b 2) (sums X i b 3) (sums X i b 4) v403 v452 c64 v453 >>= kk)) := by
  rw [k0_part15_eq_skeleton]
  unfold k0_part15_skel
  have e (g : ℕ) := select_sums X i hr g
  simp only [Prog.lift, Prog.bind_op, Prog.bind_ret, Prog.pure_eq_ret, Prog.bind_assoc]
  rw [show k0_pay72 (sums X i b 0) v403 = sums X i b 0 from e 0, show k0_pay73 (sums X i b 1) v403 = sums X i b 1 from e 1,
    show k0_pay74 (sums X i b 2) v403 = sums X i b 2 from e 2, show k0_pay75 (sums X i b 3) v403 = sums X i b 3 from e 3,
    show k0_pay76 (sums X i b 4) v403 = sums X i b 4 from e 4]
  iintro ⟨#Hmw, Hi, Ho, Hd, HO⟩ Hk
  iapply (wp_arrive X d i O W a5 a9 q (t := 2 * k.val + 1) (by have := lt32 k; omega)) $$ [Hi HO]
  · iframe Hi HO Hmw
  iintro ⟨Hr, Hz, HX, HO⟩
  by_cases hc : k0_cond3 k = 1#1
  · have hk := (cond3_iff k).1 hc
    have hk' := lt32 k
    rw [dif_pos hc, k0_part5_eq_skeleton]
    unfold k0_part5_skel
    simp only [Prog.lift, Prog.bind_op, Prog.bind_ret, Prog.pure_eq_ret, Prog.bind_assoc]
    iapply (wp_done X d i O W a7 a11 (t := 2 * k.val + 1) (by omega)) $$ [Ho HO]
    · iframe Ho HO Hmw
    iintro ⟨Hy, Hzo, Hb, HO⟩
    iapply Hk
    iframe Hr Hz HX Hzo Hb HO
    rw [show 2 * k.val + 1 - 1 = 2 * k.val + 1 - 2 + 1 by omega]
    iapply (done_next X d i (n := 2 * k.val + 1 - 2) (by omega)) $$ [Hy Hd]
    iframe Hy Hd
  · have hk : k.val = 0 := by have := (cond3_iff k).not.1 hc; omega
    rw [dif_neg hc]
    simp only [Prog.lift, Prog.bind_op, Prog.bind_ret, Prog.pure_eq_ret, Prog.bind_assoc]
    ihave Ho := (outSlot_free X d i a7 a11 (t := 2 * k.val + 1) (by omega)).1 $$ Ho
    iapply Hk
    rw [hk]
    iframe Hr Hz HX Ho HO Hd

/-- A chunk's rows turned into its running sums. -/
theorem sums_loop (b0 b1 b2 b3 b4 b5 b6 b7 b8 b9 b10 b11 b12 b13 b14 b15 : FVec F S16 .f32) (w1 w2 w3 : BitVec 32) (w4 : BitVec 1) (b : ℕ) :
    iprop(rowsBuf X d i a4 b ∗ anyBuf d i a6)
      ⊢ WP d i (fun a => iprop(⌜a = allSums X i (b + 64)⌝ ∗ anyBuf d i a4 ∗ sumsBuf X d i a6 b))
        (Scf.Loop.for k0_t2_loop k0_t2_ok (allSums X i b)
          (k0_t2_body i xM h2 yM h3 a4 h4 a5 h5 a6 h6 a7 h7 a8 a9 a10 a11 b0 b1 b2 b3 b4 b5 b6 b7 b8 b9 b10 b11 b12 b13 b14 b15 w1 w2 w3 w4)) := by
  iintro ⟨⟨%fA, %hA, HA⟩, ⟨%fO, HO⟩⟩
  iapply (wp_mono ?hQ) $$ [HA HO]
  rotate_left
  · iapply (rows_loop X d i xM h2 yM h3 a4 h4 a5 h5 a6 h6 a7 h7 a8 a9 a10 a11 b0 b1 b2 b3 b4 b5 b6 b7 b8 b9 b10 b11 b12 b13 b14 b15 w1 w2 w3 w4 b fA fO hA)
    iframe HA HO
  case hQ =>
    intro a
    unfold rowsInv
    iintro ⟨%ha, HA, ⟨%f, %hf, HO⟩⟩
    isplitr
    · ipureintro
      exact ha
    isplitl [HA]
    · iexists fA
      iexact HA
    · iexists f
      iframe HO
      ipureintro
      exact hf

theorem wp_sums0 {b b' : ℕ} (hb : b' = b + 64) (v221 v290 v291 : BitVec 32) (v296 : BitVec 1)
    (hr : Scalar.cmpi .eq (Scalar.select v296 (Scalar.addi v291 v290) v291) 0#32 = 1#1 → b = 0) {kk : (Σ' (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : BitVec 32), BitVec 32) → Prog (TpuEff nD τ sig (Elt F) Λ₀ (.scVector (cV i) (jV i))) α} :
    iprop(rowsBuf X d i a4 b ∗ anyBuf d i a6)
      ⊢ iprop((iprop(anyBuf d i a4 ∗ sumsBuf X d i a6 b) -∗ WP d i Q (kk ⟨sums X i b' 0, sums X i b' 1, sums X i b' 2, sums X i b' 3, sums X i b' 4, sums X i b' 5, sums X i b' 6, sums X i b' 7, sums X i b' 8, sums X i b' 9, sums X i b' 10, sums X i b' 11, sums X i b' 12, sums X i b' 13, sums X i b' 14, sums X i b' 15, 64#32, Scalar.divsi v221 64#32⟩))
          -∗ WP d i Q (k0_part11 i xM h2 yM h3 a4 h4 a5 h5 a6 h6 a7 h7 a8 a9 a10 a11 (sums X i b 0) (sums X i b 1) (sums X i b 2) (sums X i b 3) (sums X i b 4) (sums X i b 5) (sums X i b 6) (sums X i b 7) (sums X i b 8) (sums X i b 9) (sums X i b 10) (sums X i b 11) (sums X i b 12) (sums X i b 13) (sums X i b 14) (sums X i b 15) v221 v290 v291 v296 >>= kk)) := by
  subst hb
  rw [k0_part11_eq_skeleton]
  unfold k0_part11_skel
  have e (g : ℕ) := select_sums X i hr g
  simp only [Prog.lift, Prog.bind_op, Prog.bind_ret, Prog.pure_eq_ret, Prog.bind_assoc]
  rw [show k0_pay45 (sums X i b 0) v290 v291 v296 = sums X i b 0 from e 0, show k0_pay46 (sums X i b 1) v290 v291 v296 = sums X i b 1 from e 1, show k0_pay47 (sums X i b 2) v290 v291 v296 = sums X i b 2 from e 2, show k0_pay48 (sums X i b 3) v290 v291 v296 = sums X i b 3 from e 3, show k0_pay49 (sums X i b 4) v290 v291 v296 = sums X i b 4 from e 4, show k0_pay50 (sums X i b 5) v290 v291 v296 = sums X i b 5 from e 5, show k0_pay51 (sums X i b 6) v290 v291 v296 = sums X i b 6 from e 6, show k0_pay52 (sums X i b 7) v290 v291 v296 = sums X i b 7 from e 7, show k0_pay53 (sums X i b 8) v290 v291 v296 = sums X i b 8 from e 8, show k0_pay54 (sums X i b 9) v290 v291 v296 = sums X i b 9 from e 9, show k0_pay55 (sums X i b 10) v290 v291 v296 = sums X i b 10 from e 10, show k0_pay56 (sums X i b 11) v290 v291 v296 = sums X i b 11 from e 11, show k0_pay57 (sums X i b 12) v290 v291 v296 = sums X i b 12 from e 12, show k0_pay58 (sums X i b 13) v290 v291 v296 = sums X i b 13 from e 13, show k0_pay59 (sums X i b 14) v290 v291 v296 = sums X i b 14 from e 14, show k0_pay60 (sums X i b 15) v290 v291 v296 = sums X i b 15 from e 15]
  refine wp_then d i (sums_loop X d i h2 h3 a4 h4 a5 h5 a6 h6 a7 h7 a8 a9 a10 a11 (sums X i b 0) (sums X i b 1) (sums X i b 2) (sums X i b 3) (sums X i b 4) (sums X i b 5) (sums X i b 6) (sums X i b 7) (sums X i b 8) (sums X i b 9) (sums X i b 10) (sums X i b 11) (sums X i b 12) (sums X i b 13) (sums X i b 14) (sums X i b 15) v221 v290 v291 v296 b) fun a => ?_
  iintro ⟨⟨%ha, H⟩, Hk⟩
  subst ha
  iapply Hk $$ H

theorem wp_sums1 {b b' : ℕ} (hb : b' = b + 64) (v403 : BitVec 32) (v481 : BitVec 1) (hr : v481 = 1#1 → b = 0) {kk : (Σ' (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : BitVec 32) (_ : BitVec 1), BitVec 32) → Prog (TpuEff nD τ sig (Elt F) Λ₀ (.scVector (cV i) (jV i))) α} :
    iprop(rowsBuf X d i a5 b ∗ anyBuf d i a7)
      ⊢ iprop((∀ (w : BitVec 32) (w' : BitVec 1) (w'' : BitVec 32), iprop(anyBuf d i a5 ∗ sumsBuf X d i a7 b) -∗ WP d i Q (kk ⟨sums X i b' 0, sums X i b' 1, sums X i b' 2, sums X i b' 3, sums X i b' 4, sums X i b' 5, sums X i b' 6, sums X i b' 7, sums X i b' 8, sums X i b' 9, sums X i b' 10, sums X i b' 11, sums X i b' 12, sums X i b' 13, sums X i b' 14, sums X i b' 15, w, w', w''⟩))
          -∗ WP d i Q (k0_part16 i xM h2 yM h3 a4 h4 a5 h5 a6 h6 a7 h7 a8 a9 a10 a11 (sums X i b 5) (sums X i b 6) (sums X i b 7) (sums X i b 8) (sums X i b 9) (sums X i b 10) (sums X i b 11) (sums X i b 12) (sums X i b 13) (sums X i b 14) (sums X i b 15) v403 v481 (sums X i b 0) (sums X i b 1) (sums X i b 2) (sums X i b 3) (sums X i b 4) (Scalar.ofBits .f32 0x00000000#32) >>= kk)) := by
  subst hb
  rw [k0_part16_eq_skeleton]
  unfold k0_part16_skel
  have e (g : ℕ) := select_sums X i hr g
  simp only [Prog.lift, Prog.bind_op, Prog.bind_ret, Prog.pure_eq_ret, Prog.bind_assoc]
  rw [show k0_pay77 (sums X i b 5) v481 (Scalar.ofBits .f32 0x00000000#32) = sums X i b 5 from e 5, show k0_pay78 (sums X i b 6) v481 = sums X i b 6 from e 6, show k0_pay79 (sums X i b 7) v481 = sums X i b 7 from e 7, show k0_pay80 (sums X i b 8) v481 = sums X i b 8 from e 8, show k0_pay81 (sums X i b 9) v481 = sums X i b 9 from e 9, show k0_pay82 (sums X i b 10) v481 = sums X i b 10 from e 10, show k0_pay83 (sums X i b 11) v481 = sums X i b 11 from e 11, show k0_pay84 (sums X i b 12) v481 = sums X i b 12 from e 12, show k0_pay85 (sums X i b 13) v481 = sums X i b 13 from e 13, show k0_pay86 (sums X i b 14) v481 = sums X i b 14 from e 14, show k0_pay87 (sums X i b 15) v481 = sums X i b 15 from e 15]
  refine wp_then d i (sums_loop X d i h2 h3 a5 h5 a4 h4 a7 h7 a6 h6 a8 a9 a10 a11 (sums X i b 0) (sums X i b 1) (sums X i b 2) (sums X i b 3) (sums X i b 4) (sums X i b 5) (sums X i b 6) (sums X i b 7) (sums X i b 8) (sums X i b 9) (sums X i b 10) (sums X i b 11) (sums X i b 12) (sums X i b 13) (sums X i b 14) (sums X i b 15) v403 v403 v403 v481 b) fun a => ?_
  iintro ⟨⟨%ha, H⟩, Hk⟩
  subst ha
  iapply Hk $$ %_ %_ %_ H

theorem wp_out0 (v1 arg12 v221 v369 v371 v372 : BitVec 32) (v373 v374 : BitVec 1) (c0 : BitVec 32)
    {kk : (Σ' (_ : BitVec 32) (_ : BitVec 32) (_ : BitVec 32) (_ : BitVec 32) (_ : BitVec 32), BitVec 32) → Prog (TpuEff nD τ sig (Elt F) Λ₀ (.scVector (cV i) (jV i))) α} :
    iprop((atZero d i a10 ∗ sumsBuf X d i a6 (64 * (2 * k.val)) ∗ todo d i (2 * k.val)) ∗ (atZero d i a8 ∗ anyBuf d i a4 ∗ (xLoc d ↦{q} (X : Buf (Elt F) (xLoc d)))))
      ⊢ iprop((∀ (u1 u2 u3 u4 u5 : BitVec 32), iprop(outSlot X d i a6 a10 (2 * k.val + 2) ∗ todo d i (2 * k.val + 1) ∗ inSlot X d i a4 a8 q (2 * k.val + 2))
              -∗ WP d i Q (kk ⟨Scalar.addi (Scalar.muli 2#32 arg12) 1#32, u1, u2, u3, u4, u5⟩))
          -∗ WP d i Q (k0_part13 i xM h2 yM h3 a4 h4 a5 h5 a6 h6 a7 h7 a8 a9 a10 a11 v1 k arg12 v221 v369 v371 v372 v373 v374 c0 >>= kk)) := by
  rw [k0_part13_eq_skeleton]
  unfold k0_part13_skel
  simp only [Prog.lift, Prog.bind_op, Prog.bind_ret, Prog.pure_eq_ret, Prog.bind_assoc]
  have hk' := lt32 k
  iintro ⟨⟨Hz, HA, Ht⟩, Hi⟩ Hk
  ihave Ht := (todo_next d i (n := 2 * k.val) (by omega)) $$ Ht
  icases Ht with ⟨Hy, Ht⟩
  iapply (wp_write X d i a6 a10 (t := 2 * k.val) (by omega) (off2_eq i k 0) h6.set_eq_univ) $$ [Hz HA Hy]
  · iframe Hz HA Hy
  iintro Ho
  by_cases hc : k0_cond2 k = 1#1
  · have hk := (cond2_iff k).1 hc
    rw [dif_pos hc, k0_part4_eq_skeleton]
    unfold k0_part4_skel
    simp only [Prog.lift, Prog.bind_op, Prog.bind_ret, Prog.pure_eq_ret, Prog.bind_assoc]
    iapply (wp_fetch X d i a4 a8 q (t := 2 * k.val + 2) (by omega) (off20_eq i k hk)) $$ Hi
    iintro Hi
    iapply Hk $$ %_ %_ %_ %_ %_ [Ho Ht Hi]
    iframe Ho Ht Hi
  · have hk := (cond2_iff k).not.1 hc
    rw [dif_neg hc]
    simp only [Prog.lift, Prog.bind_op, Prog.bind_ret, Prog.pure_eq_ret, Prog.bind_assoc]
    ihave Hi := (inSlot_free X d i a4 a8 q (t := 2 * k.val + 2) (by omega)).2 $$ Hi
    iapply Hk $$ %_ %_ %_ %_ %_ [Ho Ht Hi]
    iframe Ho Ht Hi

/-! ## The trip -/

variable (q0 q1 : PosShare TreeShare)

/-- Before trip `n`: the sums so far, the two fetches in flight, the two write-outs in flight, the chunks to write and those written. -/
def tripInv (n : ℕ) (a : Vecs F) : sProp 𝕄 :=
  iprop(⌜a = allSums X i (64 * (2 * n))⌝ ∗ mayWaits d i O ∗ owing d i O W
    ∗ (inSlot X d i a4 a8 q0 (2 * n) ∗ inSlot X d i a5 a9 q1 (2 * n + 1))
    ∗ (outSlot X d i a6 a10 (2 * n) ∗ outSlot X d i a7 a11 (2 * n + 1))
    ∗ todo d i (2 * n) ∗ done X d i (2 * n - 2))

theorem trip (v1 : BitVec 32) (v74 v75 : FVec F S16 .f32) (z : F .f32) (a : Vecs F) :
    tripInv X d i O W a4 a5 a6 a7 a8 a9 a10 a11 q0 q1 k.val a
      ⊢ WP d i (tripInv X d i O W a4 a5 a6 a7 a8 a9 a10 a11 q0 q1 (k.val + 1)) (k0_t1_body i xM h2 yM h3 a4 h4 a5 h5 a6 h6 a7 h7 a8 a9 a10 a11 v1 v74 v75 z k a) := by
  have hk' := lt32 k
  unfold tripInv
  iintro ⟨%ha, #Hmw, HO, ⟨Hi0, Hi1⟩, ⟨Ho0, Ho1⟩, Ht, Hd⟩
  subst ha
  unfold k0_t1_body allSums
  simp only [k0_part9_eq_skeleton, k0_part12_eq_skeleton, k0_part14_eq_skeleton, k0_part17_eq_skeleton]
  unfold k0_part9_skel k0_part12_skel k0_part14_skel k0_part17_skel
  simp only [Prog.lift, Prog.bind_op, Prog.bind_ret, Prog.pure_eq_ret, Prog.bind_assoc]
  iapply (wp_ready0 X d i O W h2 h3 a4 h4 a5 h5 a6 h6 a7 h7 a8 a9 a10 a11 q0 k) $$ [Hi0 Ho0 Hd HO]
  · iframe Hi0 Ho0 Hd HO Hmw
  iintro %v290 %v291 %v296 %hr ⟨⟨Hr, Hz, HX⟩, ⟨Hzo, Hb⟩, Hd, HO⟩
  iapply (wp_sums0 X d i h2 h3 a4 h4 a5 h5 a6 h6 a7 h7 a8 a9 a10 a11 (b := 64 * (2 * k.val)) (b' := 64 * (2 * k.val + 1)) (by omega)
    _ v290 v291 v296 (fun h => by rw [restarts_even k (hr.symm.trans h)])) $$ [Hr Hb]
  · iframe Hr Hb
  iintro ⟨HA, HB⟩
  iapply (wp_out0 X d i h2 h3 a4 h4 a5 h5 a6 h6 a7 h7 a8 a9 a10 a11 q0 k) $$ [Hz HX Hzo HA HB Ht]
  · iframe Hz HX Hzo HA HB Ht
  iintro %u1 %u2 %u3 %u4 %u5 ⟨Ho0, Ht, Hi0⟩
  iapply (wp_ready1 X d i O W h2 h3 a4 h4 a5 h5 a6 h6 a7 h7 a8 a9 a10 a11 q1 k (b := 64 * (2 * k.val + 1)) _ _ _ _ _ (fun h => absurd h (restarts_odd k))) $$ [Hi1 Ho1 Hd HO]
  · iframe Hi1 Ho1 HO Hmw
    iexact Hd
  iintro ⟨⟨Hr, Hz, HX⟩, ⟨Hzo, Hb⟩, Hd, HO⟩
  iapply (wp_sums1 X d i h2 h3 a4 h4 a5 h5 a6 h6 a7 h7 a8 a9 a10 a11 (b := 64 * (2 * k.val + 1)) (b' := 64 * (2 * (k.val + 1))) (by omega) _ _ (fun h => absurd h (restarts_odd k))) $$ [Hr Hb]
  · iframe Hr Hb
  iintro %w %w' %w'' ⟨HA, HB⟩
  ihave Ht := (todo_next d i (n := 2 * k.val + 1) (by omega)) $$ Ht
  icases Ht with ⟨Hy, Ht⟩
  iapply (wp_write X d i a7 a11 (t := 2 * k.val + 1) (by omega) (off2_eq i k 1) h7.set_eq_univ) $$ [Hzo HB Hy]
  · iframe Hzo HB Hy
  iintro Ho1
  by_cases hc : k0_cond4 k = 1#1
  · have hk := (cond4_iff k).1 hc
    rw [dif_pos hc, k0_part8_eq_skeleton]
    unfold k0_part8_skel
    simp only [Prog.lift, Prog.bind_op, Prog.bind_ret, Prog.pure_eq_ret, Prog.bind_assoc]
    iapply (wp_fetch X d i a5 a9 q1 (t := 2 * k.val + 3) (by omega) (off38_eq i k hk)) $$ [Hz HA HX]
    · iframe Hz HA HX
    iintro Hi1
    sl_step
    iframe Hmw HO Hi0 Hi1 Ho0 Ho1 Ht Hd
    ipureintro; rfl
  · have hk := (cond4_iff k).not.1 hc
    rw [dif_neg hc]
    simp only [Prog.lift, Prog.bind_op, Prog.bind_ret, Prog.pure_eq_ret, Prog.bind_assoc]
    ihave Hi1 := (inSlot_free X d i a5 a9 q1 (t := 2 * k.val + 3) (by omega)).2 $$ [Hz HA HX]
    · iframe Hz HA HX
    sl_step
    iframe Hmw HO Hi0 Hi1 Ho0 Ho1 Ht Hd
    ipureintro; rfl

end Parts

end Cert.Proof.Cumsum

end
-- ==== Proof.Tile.lean ====
/-
  A TILE'S WHOLE PROGRAM (UNTRUSTED): the first two fetches, the thirty-two trips, the last two write-outs awaited. From
  its share of the input and its sixty-four chunks of the output, every chunk at its running sums.
-/
module

public import proofs.«01_k».proof.Proof.Trip

@[expose] public section

noncomputable section

namespace Cert.Proof.Cumsum

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (X : S16384x2048.Idx → F .f32) (d : Dev nD) (i : grid0.Coords) (O : CellTallies nD τ sig (HIx 1)) (W : Waits sig (HIx 1))
  (h2 : (xM).IsWhole) (h3 : (yM).IsWhole)
  (a4 : Memref sig .scVector .vmem S64x256 .f32) (h4 : a4.IsWhole) (a5 : Memref sig .scVector .vmem S64x256 .f32) (h5 : a5.IsWhole)
  (a6 : Memref sig .scVector .vmem S64x256 .f32) (h6 : a6.IsWhole) (a7 : Memref sig .scVector .vmem S64x256 .f32) (h7 : a7.IsWhole)
  (a8 a9 a10 a11 : DmaSems sig S_) (q0 q1 : PosShare TreeShare)

/-- The thirty-two trips. -/
theorem trips (v1 : BitVec 32) (v74 v75 : FVec F S16 .f32) (z : F .f32) :
    tripInv X d i O W a4 a5 a6 a7 a8 a9 a10 a11 q0 q1 0 (allSums X i 0)
      ⊢ wp frame (wpE (defs₀ (F := F)) 𝒱₀ (V d (cV i) (jV i)) none) Set.univ
        (Scf.Loop.for k0_t1_loop k0_t1_ok (allSums X i 0) (k0_t1_body i xM h2 yM h3 a4 h4 a5 h5 a6 h6 a7 h7 a8 a9 a10 a11 v1 v74 v75 z))
        (tripInv X d i O W a4 a5 a6 a7 a8 a9 a10 a11 q0 q1 k0_t1_loop.trips) := by
  iintro H
  sl_for (tripInv X d i O W a4 a5 a6 a7 a8 a9 a10 a11 q0 q1) $$ [H]
  · intro k acc
    exact trip X d i O W h2 h3 a4 h4 a5 h5 a6 h6 a7 h7 a8 a9 a10 a11 k q0 q1 v1 v74 v75 z acc
  · isplitl
    · iexact H
    · iintro %x H
      iexact H

theorem done_all : (done X d i 64 : sProp 𝕄) = bigSep Finset.univ fun t : Fin 64 => yPart d i t (total X) := by
  unfold done
  exact congrArg (fun s => bigSep s fun t => yPart d i t (total X)) (Finset.filter_true_of_mem fun t _ => t.isLt)

theorem todo_all : (todo d i 0 : sProp 𝕄) = bigSep Finset.univ fun t : Fin 64 => iprop(∃ g, yPart d i t g) := by
  unfold todo
  exact congrArg (fun s => bigSep s fun t => iprop(∃ g, yPart d i t g)) (Finset.filter_true_of_mem fun t _ => Nat.zero_le _)

theorem done_none : iprop(emp) ⊢ (done X d i 0 : sProp 𝕄) := by
  unfold done
  rw [Finset.filter_false_of_mem fun t _ => Nat.not_lt_zero _, bigSep_empty]
  exact Entails.of_eq rfl

/-- An input buffer's and an output buffer's part of what the tile holds between copies. -/
abbrev freeIn (A : Memref sig .scVector .vmem S64x256 .f32) (sm : DmaSems sig S_) (q : PosShare TreeShare) : sProp 𝕄 :=
  iprop(atZero d i sm ∗ anyBuf d i A ∗ (xLoc d ↦{q} (X : Buf (Elt F) (xLoc d))))
abbrev freeOut (A : Memref sig .scVector .vmem S64x256 .f32) (sm : DmaSems sig S_) : sProp 𝕄 := iprop(atZero d i sm ∗ anyBuf d i A)

theorem tile_run :
    iprop(mayWaits d i O ∗ owing d i O W ∗ (freeIn X d i a4 a8 q0 ∗ freeIn X d i a5 a9 q1) ∗ (freeOut d i a6 a10 ∗ freeOut d i a7 a11)
        ∗ bigSep Finset.univ fun t : Fin 64 => iprop(∃ g, yPart d i t g))
      ⊢ WP d i (fun _ => iprop(owing d i O W ∗ (freeIn X d i a4 a8 q0 ∗ freeIn X d i a5 a9 q1) ∗ (freeOut d i a6 a10 ∗ freeOut d i a7 a11)
          ∗ bigSep Finset.univ fun t : Fin 64 => yPart d i t (total X)))
        (cc0_k i xM h2 yM h3 a4 h4 a5 h5 a6 h6 a7 h7 a8 a9 a10 a11) := by
  rw [← done_all, ← todo_all]
  iintro ⟨#Hmw, HO, ⟨Hi0, Hi1⟩, ⟨Ho0, Ho1⟩, Ht⟩
  simp only [cc0_k_eq_skeleton]
  unfold cc0_k_skel
  simp only [k0_part18_eq_skeleton, k0_part19_eq_skeleton, k0_part20_eq_skeleton, k0_part21_eq_skeleton, k0_part22_eq_skeleton]
  unfold k0_part18_skel k0_part19_skel k0_part20_skel k0_part21_skel k0_part22_skel
  simp only [Prog.lift, Prog.bind_op, Prog.bind_ret, Prog.pure_eq_ret, Prog.bind_assoc]
  iapply (wp_fetch X d i a4 a8 q0 (t := 0) (by omega) (off1_eq i 0)) $$ Hi0
  iintro Hi0
  iapply (wp_fetch X d i a5 a9 q1 (t := 1) (by omega) (off1_eq i 1)) $$ Hi1
  iintro Hi1
  ihave Ho0 := (outSlot_free X d i a6 a10 (t := 0) (by omega)).2 $$ Ho0
  ihave Ho1 := (outSlot_free X d i a7 a11 (t := 1) (by omega)).2 $$ Ho1
  iapply (wp_then d i (trips X d i O W h2 h3 a4 h4 a5 h5 a6 h6 a7 h7 a8 a9 a10 a11 q0 q1 _ _ _ _) (H := iprop(emp)) ?rest) $$ [HO Hi0 Hi1 Ho0 Ho1 Ht]
  rotate_left
  · unfold tripInv
    isplitr
    · ipureintro; rfl
    iframe Hmw HO Hi0 Hi1 Ho0 Ho1 Ht
    iapply (done_none X d i)
    iempintro
  · iempintro
  case rest =>
    intro a
    rw [trips1]
    unfold tripInv
    iintro ⟨⟨-, #Hmw, HO, ⟨Hi0, Hi1⟩, ⟨Ho0, Ho1⟩, -, Hd⟩, -⟩
    ihave Hi0 := (inSlot_free X d i a4 a8 q0 (t := 64) (by omega)).1 $$ Hi0
    ihave Hi1 := (inSlot_free X d i a5 a9 q1 (t := 65) (by omega)).1 $$ Hi1
    iapply (wp_done X d i O W a6 a10 (t := 64) (by omega)) $$ [Ho0 HO]
    · iframe Ho0 HO Hmw
    iintro ⟨Hy, Hz, Hb, HO⟩
    ihave Hd := (done_next X d i (n := 62) (by omega)) $$ [Hy Hd]
    · iframe Hy Hd
    iapply (wp_done X d i O W a7 a11 (t := 65) (by omega)) $$ [Ho1 HO]
    · iframe Ho1 HO Hmw
    iintro ⟨Hy, Hz', Hb', HO⟩
    ihave Hd := (done_next X d i (n := 63) (by omega)) $$ [Hy Hd]
    · iframe Hy Hd
    sl_step
    iframe HO Hi0 Hi1 Hz Hb Hz' Hb' Hd

end Cert.Proof.Cumsum

end
-- ==== Proof.Deal.lean ====
/-
  THE ARRAYS DEALT TO THE TILES (UNTRUSTED): the input by shares, one of thirty-two to each tile; the output by chunks,
  each element in exactly one chunk of one tile.
-/
module

public import proofs.«01_k».proof.Proof.Tile

@[expose] public section

noncomputable section

namespace Cert.Proof.Cumsum

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The tile of SparseCore `c`, subcore `s`. -/
def tileAt (c : Fin 2) (s : Fin 16) : grid0.Coords :=
  fun | 0 => c | 1 => s | ⟨_ + 2, h⟩ => absurd h (Nat.not_lt.2 (Nat.le_add_left _ _))

theorem wid_tileAt (c : Fin 2) (s : Fin 16) : wid (tileAt c s) = s.val * 2 + c.val := rfl

/-! ## Shares -/

/-- A share in `n + 1` pieces. -/
theorem exists_shares (n : ℕ) : ∀ q : PosShare TreeShare, ∃ qs : Fin (n + 1) → PosShare TreeShare,
    ∀ (ℓ : Loc nD τ sig) (f : Buf (Elt F) ℓ), (ℓ ↦{q} f : sProp 𝕄) = bigSep Finset.univ fun k => ℓ ↦{qs k} f := by
  induction n with
  | zero => exact fun q => ⟨fun _ => q, fun ℓ f => (bigSep_univ_of_subsingleton (0 : Fin 1) (Φ := fun _ => (ℓ ↦{q} f : sProp 𝕄))).symm⟩
  | succ n ih =>
    intro q
    obtain ⟨qs, hqs⟩ := ih q.right
    refine ⟨Fin.cons q.left qs, fun ℓ f => ?_⟩
    rw [Fin.univ_succ, Finset.cons_eq_insert, SparseCore.bigSep_insert' (by simp), bigSep_map,
      BI.Entails.antisymm (pointsTo_share (PosShare.mem_left_op_right q)).1 (pointsTo_share (PosShare.mem_left_op_right q)).2, hqs]
    rfl

/-- Tile `(c, s)`'s share of the input: one of thirty-two pieces of it all. -/
def tileShare (F : FTy → Type) [FloatOps F] (c : Fin 2) (s : Fin 16) : PosShare TreeShare := (exists_shares (F := F) 31 fullShare).choose (finProdFinEquiv (c, s))

theorem shares (ℓ : Loc nD τ sig) (f : Buf (Elt F) ℓ) :
    (ℓ ↦{fullShare} f : sProp 𝕄) = bigSep Finset.univ fun c : Fin 2 => bigSep Finset.univ fun s : Fin 16 => ℓ ↦{tileShare F c s} f := by
  refine ((exists_shares (F := F) 31 fullShare).choose_spec ℓ f).trans ?_
  exact (bigSep_univ_equiv (finProdFinEquiv (m := 2) (n := 16)) _).trans (bigSep_univ_prod _)

/-! ## Chunks -/

/-- The chunk of the output that holds element `y`: which rows, which columns. -/
theorem mem_chunk (c : Fin 2) (s : Fin 16) (t : Fin 64) (y : S16384x2048.Idx) :
    y ∈ (chunk (tileAt c s) t).set ↔ (y 0).val / 64 = 64 * ((s.val * 2 + c.val) / 8) + t.val ∧ (y 1).val / 256 = (s.val * 2 + c.val) % 8 := by
  unfold chunk
  refine Rect.mem_set_unit.trans ((Fin.forall_fin_two (p := fun a : Fin 2 => _)).trans ?_)
  show (row0 _ + 64 * t.val ≤ (y 0).val ∧ (y 0).val < row0 _ + 64 * t.val + 64) ∧ (col0 _ ≤ (y 1).val ∧ (y 1).val < col0 _ + 256) ↔ _
  unfold row0 col0
  rw [wid_tileAt]
  omega

abbrev Piece : Type := Fin 2 × Fin 16 × Fin 64
abbrev piece (p : Piece) : Finset S16384x2048.Idx := (chunk (tileAt p.1 p.2.1) p.2.2).set

theorem pieces_disjoint : ∀ p ∈ (Finset.univ : Finset Piece), ∀ p' ∈ (Finset.univ : Finset Piece), p ≠ p' → Disjoint (piece p) (piece p') := by
  rintro ⟨c, s, t⟩ - ⟨c', s', t'⟩ - h
  refine Finset.disjoint_left.mpr fun y hy hy' => h ?_
  rw [mem_chunk] at hy hy'
  refine Prod.ext (Fin.ext ?_) (Prod.ext (Fin.ext ?_) (Fin.ext ?_)) <;> dsimp only at * <;> omega

theorem exists_piece (a b : ℕ) (ha : a < 16384) (hb : b < 2048) :
    ∃ (c : Fin 2) (s : Fin 16) (t : Fin 64), a / 64 = 64 * ((s.val * 2 + c.val) / 8) + t.val ∧ b / 256 = (s.val * 2 + c.val) % 8 := by
  refine ⟨⟨b / 256 % 2, by omega⟩, ⟨(a / 4096 * 8 + b / 256) / 2, by omega⟩, ⟨a / 64 % 64, by omega⟩, ?_⟩
  dsimp only
  omega

theorem pieces_cover : (Finset.univ : Finset Piece).biUnion piece = Finset.univ := by
  ext y
  rw [Finset.mem_biUnion]
  obtain ⟨c, s, t, h0, h1⟩ := exists_piece (y 0).val (y 1).val (y 0).isLt (y 1).isLt
  exact iff_of_true ⟨(c, s, t), Finset.mem_univ _, (mem_chunk c s t y).mpr ⟨h0, h1⟩⟩ (Finset.mem_univ _)

theorem pieces (d : Dev nD) (f : Buf (Elt F) (yLoc d)) :
    (yLoc d ↦{fullShare} f : sProp 𝕄) = bigSep Finset.univ fun c : Fin 2 => bigSep Finset.univ fun s : Fin 16 => bigSep Finset.univ fun t : Fin 64 => yPart d (tileAt c s) t f := by
  refine (congrArg (fun S => (yLoc d ↦[S]{fullShare} f : sProp 𝕄)) pieces_cover.symm).trans ?_
  refine (pointsTo_biUnion Finset.univ (ℓ := yLoc d) piece pieces_disjoint).trans ?_
  exact (bigSep_univ_prod _).trans (bigSep_congr fun c _ => bigSep_univ_prod _)

/-! ## What a tile is dealt and gives back -/

variable (X : Dev nD → S16384x2048.Idx → F .f32)

abbrev tileX (d : Dev nD) (c : Fin 2) (s : Fin 16) : sProp 𝕄 := xLoc d ↦{tileShare F c s} (X d : Buf (Elt F) (xLoc d))
abbrev tileIn (d : Dev nD) (c : Fin 2) (s : Fin 16) : sProp 𝕄 := iprop(tileX X d c s ∗ bigSep Finset.univ fun t : Fin 64 => iprop(∃ g, yPart d (tileAt c s) t g))
abbrev tileOut (d : Dev nD) (c : Fin 2) (s : Fin 16) : sProp 𝕄 := iprop(tileX X d c s ∗ bigSep Finset.univ fun t : Fin 64 => yPart d (tileAt c s) t (total (X d)))

theorem tileIn_of (d : Dev nD) (c : Fin 2) (s : Fin 16) (f : Buf (Elt F) (yLoc d)) :
    iprop(tileX X d c s ∗ bigSep Finset.univ fun t : Fin 64 => yPart d (tileAt c s) t f) ⊢ tileIn X d c s := by
  refine sep_mono_right (bigSep_mono fun t _ => ?_)
  show yPart d (tileAt c s) t f ⊢ iprop(∃ g, yPart d (tileAt c s) t g)
  iintro H
  iexists f
  iexact H

theorem deal (d : Dev nD) (f : Buf (Elt F) (yLoc d)) :
    iprop((xLoc d ↦{fullShare} (X d : Buf (Elt F) (xLoc d))) ∗ (yLoc d ↦{fullShare} f))
      ⊢ (bigSep Finset.univ fun c : Fin 2 => bigSep Finset.univ fun s : Fin 16 => tileIn X d c s : sProp 𝕄) := by
  rw [shares, pieces, ← bigSep_sep']
  refine bigSep_mono fun c _ => ?_
  rw [← bigSep_sep']
  exact bigSep_mono fun s _ => tileIn_of X d c s f

theorem gather (d : Dev nD) :
    (bigSep Finset.univ fun c : Fin 2 => bigSep Finset.univ fun s : Fin 16 => tileOut X d c s : sProp 𝕄)
      ⊢ iprop((xLoc d ↦{fullShare} (X d : Buf (Elt F) (xLoc d))) ∗ (yLoc d ↦{fullShare} (total (X d) : Buf (Elt F) (yLoc d)))) := by
  rw [shares, pieces, ← bigSep_sep']
  refine bigSep_mono fun c _ => ?_
  rw [← bigSep_sep']
  exact bigSep_mono fun s _ => BI.Entails.refl _

end Cert.Proof.Cumsum

end
-- ==== Proof.Task.lean ====
/-
  A TILE'S TASK (UNTRUSTED): the launch hands a subcore its share and its chunks, all its scoped buffers and all its scoped
  semaphores at zero. Its four scratch buffers and their four semaphores are among those; from them the tile runs its
  program and gives everything back.
-/
module

public import proofs.«01_k».proof.Proof.Deal

@[expose] public section

noncomputable section

namespace Cert.Proof.Cumsum

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Four of many -/

theorem take_four {I : Type} [DecidableEq I] (s : Finset I) (Φ : I → sProp (MT nD τ sig (HIx 1) (Elt F) ℕ UU ℕ)) (f : Fin 4 → I)
    (hf : Function.Injective f) (hs : ∀ k, f k ∈ s) :
    ∃ R : sProp 𝕄, bigSep s Φ = iprop(Φ (f 0) ∗ Φ (f 1) ∗ Φ (f 2) ∗ Φ (f 3) ∗ R) := by
  refine ⟨bigSep ((((s.erase (f 0)).erase (f 1)).erase (f 2)).erase (f 3)) Φ, ?_⟩
  rw [SparseCore.bigSep_erase' (hs 0), SparseCore.bigSep_erase' (i := f 1) (by simp [hs, hf.ne_iff]),
    SparseCore.bigSep_erase' (i := f 2) (by simp [hs, hf.ne_iff]), SparseCore.bigSep_erase' (i := f 3) (by simp [hs, hf.ne_iff])]

variable (X : Dev nD → S16384x2048.Idx → F .f32)

/-- The tile's scratch buffers and their semaphores: two for the rows fetched, two for the sums written out. -/
def scratchRef : Fin 4 → Ref sig .scVector := ![cc0_scratch0, cc0_scratch1, cc0_scratch2, cc0_scratch3]
def scratchSem : Fin 4 → DmaSems sig S_ := ![cc0_scratch4, cc0_scratch5, cc0_scratch6, cc0_scratch7]

theorem scratchRef_injective : Function.Injective scratchRef := by decide
theorem scratchSem_injective : Function.Injective fun k => (scratchSem k).sem := by decide
theorem scratchSem_scoped : ∀ k, (SemLoc.dma (scratchSem k).sem : SemLoc sig).isScoped .scVector = true := by decide

abbrev anyRef (d : Dev nD) (i : grid0.Coords) (r : Ref sig .scVector) : sProp 𝕄 := iprop(∃ f, (thr d i).loc r ↦{fullShare} f)

theorem own_bufs (d : Dev nD) (i : grid0.Coords) : ∃ R : sProp 𝕄,
    (ownBufs (thr d i) : sProp 𝕄) = iprop(anyRef d i cc0_scratch0 ∗ anyRef d i cc0_scratch1 ∗ anyRef d i cc0_scratch2 ∗ anyRef d i cc0_scratch3 ∗ R) :=
  take_four (ownRefs (τ := τ) (.scVector (cV i) (jV i))) (fun b => iprop(∃ f, ((d, b) : Loc nD τ sig) ↦{fullShare} f))
    (fun k => (Proc.scVector (cV i) (jV i)).devRef (scratchRef k)) (fun _ _ h => scratchRef_injective (Proc.devRef_injective _ h))
    fun k => SparseCore.Cfg.mem_ownRefs_of_owner (by fin_cases k <;> rfl)

theorem own_sems (d : Dev nD) (i : grid0.Coords) : ∃ R : sProp 𝕄,
    (ownSems0 (thr d i) : sProp 𝕄) = iprop(atZero d i cc0_scratch4 ∗ atZero d i cc0_scratch5 ∗ atZero d i cc0_scratch6 ∗ atZero d i cc0_scratch7 ∗ R) :=
  take_four (ownCells (thr d i)) (fun g => semVal g 0) (fun k => (thr d i, SemLoc.dma (scratchSem k).sem))
    (fun _ _ h => scratchSem_injective (SemLoc.dma.inj (Prod.ext_iff.mp h).2))
    fun k => mem_ownCells.mpr ⟨rfl, scratchSem_scoped k⟩

/-! ## The task -/

theorem tile_body (d : Dev nD) (c : Fin 2) (s : Fin 16) (O : CellTallies nD τ sig (HIx 1)) (W : Waits sig (HIx 1)) (hO : ∀ g, O g none = 0) :
    iprop(levAts (K (F := F)).L (K (F := F)).lev ∗ emp ∗ tileIn X d c s
        ∗ scopedBufs (thr d (tileAt c s)) ∗ scopedSems0 (thr d (tileAt c s)) ∗ owes (thr d (tileAt c s)) O W)
      ⊢ wp frame (wpE (defs₀ (F := F)) 𝒱₀ (thr d (tileAt c s)) none) Set.univ
          (cc0_k (tileAt c s) xM (Memref.isWhole_whole _) yM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(tileOut X d c s ∗ scopedBufs (thr d (tileAt c s)) ∗ scopedSems0 (thr d (tileAt c s))
            ∗ ∃ W', ⌜∀ p ∈ W', p ∈ W ∨ p.2 = none ∨ p.2 = some (0 : Fin 1)⌝ ∗ owes (thr d (tileAt c s)) O W') := by
  obtain ⟨RB, hB⟩ := own_bufs (F := F) d (tileAt c s)
  obtain ⟨RS, hS⟩ := own_sems (F := F) d (tileAt c s)
  rw [(K (F := F)).scopedBufs_V facts d (cV (tileAt c s)) (jV (tileAt c s)), SparseCore.Cfg.scopedSems0_V (Val := Elt F) d (cV (tileAt c s)) (jV (tileAt c s)), hB, hS]
  have hx : (tileX X d c s ⊣⊢ iprop((xLoc d ↦{(tileShare F c s).left} (X d : Buf (Elt F) (xLoc d))) ∗ (xLoc d ↦{(tileShare F c s).right} (X d : Buf (Elt F) (xLoc d)))) : Prop) :=
    pointsTo_share (PosShare.mem_left_op_right _)
  refine BIBase.Entails.trans ?pre ((sep_mono_left (tile_run (X d) d (tileAt c s) O W (Memref.isWhole_whole _) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 (tileShare F c s).left (tileShare F c s).right)).trans
      ((wp_frame_r (R := iprop(RB ∗ RS)) _ _ _).trans (wp_mono _ _ _ fun _ => ?post)))
  case pre =>
    iintro ⟨#Hlv, -, ⟨HX, Hy⟩, ⟨Hb0, Hb1, Hb2, Hb3, HB⟩, ⟨Hs0, Hs1, Hs2, Hs3, HS⟩, HO⟩
    ihave HX := hx.1 $$ HX
    icases HX with ⟨HX0, HX1⟩
    ihave Hmw := (show levAts (K (F := F)).L (K (F := F)).lev ⊢ mayWaits d (tileAt c s) O from
      (K (F := F)).mayWaits_none (thr := thr d (tileAt c s)) hO) $$ Hlv
    iframe Hmw HX0 HX1 Hy Hb0 Hb1 Hb2 Hb3 Hs0 Hs1 Hs2 Hs3 HB HS
    iexists W
    iframe HO
    ipureintro
    exact fun p hp => Or.inl hp
  case post =>
    iintro ⟨⟨⟨%W', %hW', HO⟩, ⟨⟨Hs0, Hb0, HX0⟩, ⟨Hs1, Hb1, HX1⟩⟩, ⟨⟨Hs2, Hb2⟩, ⟨Hs3, Hb3⟩⟩, Hy⟩, HB, HS⟩
    ihave HX := hx.2 $$ [HX0 HX1]
    · iframe HX0 HX1
    iframe HX Hy Hb0 Hb1 Hb2 Hb3 HB Hs0 Hs1 Hs2 Hs3 HS
    iexists W'
    iframe HO
    ipureintro
    exact fun p hp => (hW' p hp).imp_right Or.inl

/-! ## What the launch asks of it -/

/-- What a launch hands a SparseCore, what that hands each of its tiles, and what they hand back. -/
def P : (K (F := F)).Pay (nD := nD) (Val := Elt F) (Name := ℕ) (U := UU) where
  st := fun q d c => match q with | 0 => bigSep Finset.univ fun s : Fin 16 => tileIn X d (Fin.cast nCore_zero c) s
  dn := fun q d c => match q with | 0 => bigSep Finset.univ fun s : Fin 16 => tileOut X d (Fin.cast nCore_zero c) s
  go := fun q d c s => match q with | 0 => tileIn X d (Fin.cast nCore_zero c) (Fin.cast nSub_zero s)
  td := fun q d c s => match q with | 0 => tileOut X d (Fin.cast nCore_zero c) (Fin.cast nSub_zero s)
  x := fun _ _ => iprop(emp)

instance P_storable : (P X).IsStorable where
  st q d c := match q with
    | 0 => (inferInstance : BI.Storable (upEmb : UEmb _ 𝕄) (bigSep Finset.univ fun s : Fin 16 => tileIn X d (Fin.cast nCore_zero c) s))
  dn q d c := match q with
    | 0 => (inferInstance : BI.Storable (upEmb : UEmb _ 𝕄) (bigSep Finset.univ fun s : Fin 16 => tileOut X d (Fin.cast nCore_zero c) s))
  go q d c s := match q with
    | 0 => (inferInstance : BI.Storable (upEmb : UEmb _ 𝕄) (tileIn X d (Fin.cast nCore_zero c) (Fin.cast nSub_zero s)))
  td q d c s := match q with
    | 0 => (inferInstance : BI.Storable (upEmb : UEmb _ 𝕄) (tileOut X d (Fin.cast nCore_zero c) (Fin.cast nSub_zero s)))

theorem tile_label (c : Fin τ.nSC) (s : Fin τ.nSub) :
    defs₀ (F := F) (.scVector c s) 0 ()
      = SparseCore.onTile hcore0 hsub0 (fun c s => cc0_k (tileAt c s) xM (Memref.isWhole_whole _) yM (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) ⟨⟩ c s := rfl

set_option maxRecDepth 16384 in
theorem tile_obl : (K (F := F)).TileObl (D (F := F)) 𝒱 (P X) v₀ 0 := by
  intro d c s O W hO _ _
  have hb := tile_body X d (Fin.cast nCore_zero c) (Fin.cast nSub_zero s) O W hO
  simp only [show (P X).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [tile_label]
  simp only [SparseCore.onTile, hci, and_self, ↓reduceDIte]
  exact hb

theorem tasks_eq (Φ : Fin 16 → sProp (MT nD τ sig (HIx 1) (Elt F) ℕ UU ℕ)) :
    (bigSep Finset.univ fun s : Fin ((K (F := F)).nSub 0) => Φ (Fin.cast nSub_zero s)) = bigSep Finset.univ Φ :=
  bigSep_congr fun _ _ => congrArg Φ (Fin.ext rfl)

theorem cores_eq (Φ : Fin 2 → sProp (MT nD τ sig (HIx 1) (Elt F) ℕ UU ℕ)) :
    (bigSep Finset.univ fun c : Fin ((K (F := F)).nCore 0) => Φ (Fin.cast nCore_zero c)) = bigSep Finset.univ Φ :=
  bigSep_congr fun _ _ => congrArg Φ (Fin.ext rfl)

theorem tile_split : (K (F := F)).VecSplit' (P X) 0 := by
  intro d c
  show (bigSep Finset.univ fun s : Fin 16 => tileIn X d (Fin.cast nCore_zero c) s) ⊢ |={Set.univ}=> iprop(
      (bigSep Finset.univ fun s : Fin ((K (F := F)).nSub 0) => tileIn X d (Fin.cast nCore_zero c) (Fin.cast nSub_zero s))
      ∗ ((bigSep Finset.univ fun s : Fin ((K (F := F)).nSub 0) => tileOut X d (Fin.cast nCore_zero c) (Fin.cast nSub_zero s))
          -∗ bigSep Finset.univ fun s : Fin 16 => tileOut X d (Fin.cast nCore_zero c) s))
  rw [tasks_eq (fun s => tileIn X d (Fin.cast nCore_zero c) s), tasks_eq (fun s => tileOut X d (Fin.cast nCore_zero c) s)]
  iintro H
  imodintro
  iframe H
  iintro H
  iexact H

end Cert.Proof.Cumsum

end
-- ==== Proof.Launch.lean ====
/-
  THE WHOLE PROGRAM'S RUN, over any float values (UNTRUSTED): @main lays the argument's rows end to end, starts the
  SparseCores on them, and gives what they wrote the argument's shape again. Every fair execution ends, the argument is
  unchanged, the result holds the running sums, and every semaphore counter reads zero.
-/
module

public import proofs.«01_k».proof.Proof.Task

@[expose] public section

noncomputable section

namespace Cert.Proof.Cumsum

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The argument's rows end to end, and the result: their running sums under the argument's shape. -/
def rows (d : Dev nD) : S16384x2048.Idx → F .f32 := shapeCast S16384x2048 (m (aLoc d) : S4x4096x2048.Idx → F .f32) shapeCasts_S4x4096x2048_S16384x2048
def result (d : Dev nD) : S4x4096x2048.Idx → F .f32 := shapeCast S4x4096x2048 (total (rows m d)) shapeCasts_S16384x2048_S4x4096x2048

/-! ## The launch's ghost state -/

def u₀ : UU := (initOf (K (F := F)).hsCells (K (F := F)).hsToks, 1)

theorem bigSep_emps {I : Type} (s : Finset I) : (bigSep s fun _ => iprop(emp)) = (iprop(emp) : sProp 𝕄) := bigSep_emp_const s

theorem launch_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P (rows m)).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun t : Thread nD τ => bigSep Finset.univ fun q : Fin 1 => (P (rows m)).x q t) = bigSep Finset.univ fun _ => iprop(emp) from
    bigSep_congr fun _ _ => bigSep_univ_of_subsingleton (0 : Fin 1), bigSep_emps]
  iempintro

/-! ## @main on the TensorCore -/

/-- The four arrays as the device names them, and the two reshapes. -/
abbrev aRef : DevRef τ sig := Proc.devRef .tc (main_arg0 : Ref sig .tc)
abbrev xRef : DevRef τ sig := Proc.devRef .tc (main_v0 : Ref sig .tc)
abbrev yRef : DevRef τ sig := Proc.devRef .tc (main_v1 : Ref sig .tc)
abbrev oRef : DevRef τ sig := Proc.devRef .tc (main_v2 : Ref sig .tc)
abbrev opIn : HloOp τ sig (Elt F) := StableHlo.reshape main_arg0 main_v0 (rfl : (.f32 : EltTy) = .f32) shapeCasts_S4x4096x2048_S16384x2048
abbrev opOut : HloOp τ sig (Elt F) := StableHlo.reshape main_v1 main_v2 (rfl : (.f32 : EltTy) = .f32) shapeCasts_S16384x2048_S4x4096x2048

abbrev arrays : Finset (DevRef τ sig) := {aRef, xRef, yRef, oRef}

theorem held_arrays (d : Dev nD) (W : Valuation τ sig (Elt F)) :
    (held (T d) arrays W : sProp 𝕄)
      = iprop((aLoc d ↦{fullShare} W aRef) ∗ (xLoc d ↦{fullShare} W xRef) ∗ (yLoc d ↦{fullShare} W yRef) ∗ oLoc d ↦{fullShare} W oRef) := by
  unfold held arrays
  rw [SparseCore.bigSep_insert' (by decide), SparseCore.bigSep_insert' (by decide), SparseCore.bigSep_insert' (by decide), bigSep_singleton]

/-- The launch memory, and the contents after the first reshape and after the SparseCores. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) yRef (total (rows m d))

theorem unscoped_held (d : Dev nD) : (unscopedBufs d (fun b => m ((SparseCore.T d).loc b)) : sProp 𝕄) = held (T d) arrays (V0 m d) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton, held_arrays]
  rfl

theorem V1_a (d : Dev nD) : V1 m d aRef = m (aLoc d) :=
  StableHlo.reshape_result_ne _ _ _ _ _ _ (V0 m d) (show (main_arg0 : Ref sig .tc) ≠ main_v0 by decide)
theorem V1_x (d : Dev nD) : V1 m d xRef = rows m d := StableHlo.reshape_result _ _ _ _ _ _ (V0 m d)

theorem V2_y (d : Dev nD) : V2 m d yRef = total (rows m d) := Function.update_self _ _ _

theorem held_V1 (d : Dev nD) :
    (held (T d) arrays ((opIn (F := F)).result (V0 m d)) : sProp 𝕄)
      = iprop((aLoc d ↦{fullShare} m (aLoc d)) ∗ (xLoc d ↦{fullShare} (rows m d : Buf (Elt F) (xLoc d))) ∗ (yLoc d ↦{fullShare} V1 m d yRef) ∗ oLoc d ↦{fullShare} V1 m d oRef) := by
  show held (T d) arrays (V1 m d) = _
  rw [held_arrays, V1_a, V1_x]

theorem held_V2 (d : Dev nD) :
    (held (T d) arrays (V2 m d) : sProp 𝕄)
      = iprop((aLoc d ↦{fullShare} m (aLoc d)) ∗ (xLoc d ↦{fullShare} (rows m d : Buf (Elt F) (xLoc d)))
          ∗ (yLoc d ↦{fullShare} (total (rows m d) : Buf (Elt F) (yLoc d))) ∗ oLoc d ↦{fullShare} V1 m d oRef) := by
  unfold V2
  rw [held_arrays, Function.update_of_ne (show aRef ≠ yRef by decide), Function.update_of_ne (show xRef ≠ yRef by decide), Function.update_self,
    Function.update_of_ne (show oRef ≠ yRef by decide), V1_a, V1_x]

/-- What @main leaves the claims. -/
abbrev left (d : Dev nD) : sProp 𝕄 := iprop((aLoc d ↦{fullShare} m (aLoc d)) ∗ (oLoc d ↦{fullShare} (result m d : Buf (Elt F) (oLoc d))))

theorem held_V3 (d : Dev nD) : (held (T d) arrays ((opOut (F := F)).result (V2 m d)) : sProp 𝕄) ⊢ left m d := by
  have ha : (opOut (F := F)).result (V2 m d) aRef = m (aLoc d) :=
    (StableHlo.reshape_result_ne _ _ _ _ _ _ (V2 m d) (show (main_arg0 : Ref sig .tc) ≠ main_v2 by decide)).trans
      ((Function.update_of_ne (show aRef ≠ yRef by decide) _ _).trans (V1_a m d))
  have ho : (opOut (F := F)).result (V2 m d) oRef = result m d :=
    (StableHlo.reshape_result _ _ _ _ _ _ (V2 m d)).trans
      (congrArg (fun v : S16384x2048.Idx → F .f32 => shapeCast S4x4096x2048 v shapeCasts_S16384x2048_S4x4096x2048)
        (V2_y m d))
  rw [held_arrays, ha, ho]
  iintro ⟨Ha, -, -, Ho⟩
  iframe Ha Ho

theorem opIn_bufs : (opIn (F := F)).bufs ⊆ arrays := show ({aRef, xRef} : Finset (DevRef τ sig)) ⊆ arrays by decide
theorem opOut_bufs : (opOut (F := F)).bufs ⊆ arrays := show ({yRef, oRef} : Finset (DevRef τ sig)) ⊆ arrays by decide

theorem st_of (d : Dev nD) (f : Buf (Elt F) (yLoc d)) :
    iprop((xLoc d ↦{fullShare} (rows m d : Buf (Elt F) (xLoc d))) ∗ (yLoc d ↦{fullShare} f))
      ⊢ (bigSep Finset.univ fun c : Fin ((K (F := F)).nCore 0) => (P (rows m)).st 0 d c : sProp 𝕄) :=
  (deal (rows m) d f).trans (Entails.of_eq (cores_eq (F := F) (fun c => bigSep Finset.univ fun s : Fin 16 => tileIn (rows m) d c s)).symm)

theorem of_dn (d : Dev nD) :
    (bigSep Finset.univ fun c : Fin ((K (F := F)).nCore 0) => (P (rows m)).dn 0 d c : sProp 𝕄)
      ⊢ iprop((xLoc d ↦{fullShare} (rows m d : Buf (Elt F) (xLoc d))) ∗ (yLoc d ↦{fullShare} (total (rows m d) : Buf (Elt F) (yLoc d)))) := by
  refine BIBase.Entails.trans (Entails.of_eq ?_) (gather (rows m) d)
  exact cores_eq (F := F) (fun c => bigSep Finset.univ fun s : Fin 16 => tileOut (rows m) d c s)

/-- @main on a device's TensorCore. -/
theorem main_run (κ : GSem nD τ sig → ℕ) (d : Dev nD) :
    iprop((K (F := F)).ctx EH (P (rows m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := arrays) opIn_bufs (V := V0 m d)) $$ [Hb Hheld]
  · iframe Hb Hheld
  iintro ⟨Hb, Hheld⟩
  rw [wp_ret]; imodintro
  ihave Hh := (Entails.of_eq (held_V1 m d)) $$ Hheld
  icases Hh with ⟨Ha, Hx, Hy, Ho⟩
  iapply ((K (F := F)).wp_run (D (F := F)) 𝒱 (EH := EH) (P := P (rows m)) κ d 0) $$ [Hst Ha Hx Hy Ho Hb Hts]
  isplitr; · iexact Hctx
  isplitl [Hst]; · iexact Hst
  isplitl [Hx Hy]
  · iapply (st_of m d _)
    iframe Hx Hy
  iintro ⟨Hst, Hdn⟩
  ihave Hdn' := (of_dn m d) $$ Hdn
  icases Hdn' with ⟨Hx, Hy⟩
  iapply (wp_hlo_within 𝒱 (SparseCore.T d) none Set.univ (op := opOut) (S := arrays) opOut_bufs (V := V2 m d)) $$ [Hb Ha Hx Hy Ho]
  · rw [held_V2]
    iframe Hb Ha Hx Hy Ho
  iintro ⟨Hb, Hheld⟩
  ihave Hl := (held_V3 m d) $$ Hheld
  rw [wp_ret]; imodintro; imodintro
  iframe Hst Hl Hb Hts

/-! ## The run -/

/-- What a device's final memory holds. -/
def final (d : Dev nD) (s' : Phys nD τ sig (Elt F)) : Prop := s'.mem.mem (oLoc d) = result m d ∧ s'.mem.mem (aLoc d) = m (aLoc d)

theorem final_of_left (d : Dev nD) (s' : Phys nD τ sig (Elt F)) : iprop(left m d ∗ SI s') ⊢ (⌜final m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · iframe HSI Ha
  icases H with ⟨%ha, HSI, -⟩
  ihave H := (SI_pointsTo_agree (st := s') (ℓ := oLoc d) (I := Finset.univ) (q := fullShare) (f := (result m d : Buf (Elt F) (oLoc d)))) $$ [HSI Ho]
  · iframe HSI Ho
  icases H with %ho
  ipureintro
  exact ⟨funext fun i => ho i (Finset.mem_univ i), funext fun i => ha i (Finset.mem_univ i)⟩

theorem run [∀ e, Nonempty (Elt F e)] : θ_run (Cert.KernelIdeal.defs (F := F)) (Cert.KernelIdeal.threads (F := F)) ⟨m, fun _ => 0, ρ⟩
    fun r => (∀ d : Dev nD, r.2.mem (oLoc d) = result m d ∧ r.2.mem (aLoc d) = m (aLoc d)) ∧ r.2.sem = fun _ => 0 :=
  SparseCore.Cfg.θ_run_sc_quiescent (K := K (F := F)) (D := D (F := F)) (𝒱 := 𝒱) (EH := EH) (P := P (rows m)) (A := ∅) facts v₀
    (fun q hq => match q with | 0 => nomatch hq)
    (fun q _ => match q with | 0 => tile_obl (rows m))
    (fun q _ => match q with | 0 => SparseCore.Cfg.VecSplit.of_plain (tile_split (rows m)))
    m ρ main (fun _ => iprop(emp)) (left m) (u₀ (F := F)) (sep_elim_left.trans (launch_ghost m)) (main_run m ρ) (final m) (final_of_left m) _ (fun _ h hz => ⟨h, hz⟩)

end Cert.Proof.Cumsum

end
-- ==== Proof.Equation.lean ====
/-
  THE REFERENCE'S SUMS AND THE KERNEL'S ARE ONE (UNTRUSTED), over the extended reals with exact addition.

  The reference adds, for an entry in row `n` of a batch, over a window of 4096 positions ending at that row. The window's
  first `4095 - n` positions lie above the batch and count as zero; the rest are the rows `0 … n`, in order. So its sum is
  the running sum, added up in the same order as the kernel adds it, and nothing is asked of the addition but that zero
  and zero make zero. The rest is where the kernel's array, four batches laid end to end, holds an entry of the argument.
-/
module

public import proofs.«01_k».proof.Proof.Columns
public import proofs.«01_k».proof.Proof.Gen.ReferenceIdeal
public import Idealize.ShloMosaic.PureOps.Ideal.Laws

@[expose] public section

noncomputable section

namespace Cert.Proof.Cumsum

open Cert.KernelIdeal Cert.KernelIdeal.Gen
open Idealize.ShloMosaic Idealize.ShloMosaic.ValueIdx

/-- A batch of columns, `R` rows by `C` columns, `B` times. -/
abbrev cube (B R C : ℕ) : Shape := ⟨3, ![B, R, C]⟩

/-- Column `c` of batch `b`: its entries, and zero past its end. -/
def column {B R C : ℕ} (A : (cube B R C).Idx → Ideal .f32) (b : Fin B) (c : Fin C) (n : ℕ) : Ideal .f32 :=
  if h : n < R then A (ix3 b ⟨n, h⟩ c) else (0 : EReal)

theorem column_of_lt {B R C : ℕ} (A : (cube B R C).Idx → Ideal .f32) (b : Fin B) (c : Fin C) {n : ℕ} (h : n < R) :
    column A b c n = A (ix3 b ⟨n, h⟩ c) := dif_pos h

/-! ## The reference's window -/

/-- Adding `d` zeros and then a column's first `n` entries, from zero. -/
theorem fold_padded (x : ℕ → Ideal .f32) (d n : ℕ) :
    (List.range (d + n)).foldl (fun (r : EReal) k => r + if d ≤ k then x (k - d) else 0) 0 = runSum x n := by
  induction n with
  | zero =>
    have h : ∀ k ≤ d, (List.range k).foldl (fun (r : EReal) k => r + if d ≤ k then x (k - d) else 0) 0 = 0 := by
      intro k hk
      induction k with
      | zero => rfl
      | succ k ih => rw [List.range_succ, List.foldl_append, ih (by omega), List.foldl_cons, List.foldl_nil, if_neg (by omega), add_zero]
    exact (h d le_rfl).trans Ideal.ofBits_zero_f32.symm
  | succ n ih =>
    rw [← Nat.add_assoc, List.range_succ, List.foldl_append, ih, List.foldl_cons, List.foldl_nil, if_pos (by omega), Nat.add_sub_cancel_left]
    rfl

theorem window_numel (R : ℕ) : (cube 1 R 1).numel = R := by
  show ∏ a : Fin 3, (![1, R, 1] : Fin 3 → ℕ) a = R
  rw [Fin.prod_univ_three]
  show 1 * R * 1 = R
  omega

/-- Position `n` of a window one column wide is its row `n`. -/
theorem window_position {R : ℕ} (n : Fin (cube 1 R 1).numel) :
    ((cube 1 R 1).rowMajor.symm n 0).val = 0 ∧ ((cube 1 R 1).rowMajor.symm n 1).val = n.val ∧ ((cube 1 R 1).rowMajor.symm n 2).val = 0 := by
  have h := Shape.rowMajor_val_three (d := ![1, R, 1]) ((cube 1 R 1).rowMajor.symm n)
  rw [Equiv.apply_symm_apply] at h
  have h0 : ((cube 1 R 1).rowMajor.symm n 0).val < 1 := ((cube 1 R 1).rowMajor.symm n 0).isLt
  have h2 : ((cube 1 R 1).rowMajor.symm n 2).val < 1 := ((cube 1 R 1).rowMajor.symm n 2).isLt
  change n.val = (((cube 1 R 1).rowMajor.symm n 0).val * R + ((cube 1 R 1).rowMajor.symm n 1).val) * 1 + ((cube 1 R 1).rowMajor.symm n 2).val at h
  have e0 : ((cube 1 R 1).rowMajor.symm n 0).val = 0 := by omega
  rw [e0, Nat.zero_mul] at h
  omega

/-- A window of a whole column, padded above by one row less: its sum at row `n` is the running sum of the column's rows
    down to `n`. -/
theorem window_sum {B R C M : ℕ} (hR : M + 1 = R) (A : (cube B R C).Idx → Ideal .f32)
    (h : (cube B R C).ReduceWindows (![1, R, 1] : Fin 3 → Nat) ![1, 1, 1] ![0, M, 0] ![0, 0, 0] (cube B R C)) (j : (cube B R C).Idx) :
    Ideal.hostReduceWindowAdd ![1, R, 1] ![1, 1, 1] ![0, M, 0] ![0, 0, 0] h A 0 j = runSum (column A (j 0) (j 2)) ((j 1).val + 1) := by
  have h0 : (j 0).val < B := (j 0).isLt
  have h1 : (j 1).val < R := (j 1).isLt
  have h2 : (j 2).val < C := (j 2).isLt
  rw [← fold_padded (column A (j 0) (j 2)) (M - (j 1).val) ((j 1).val + 1), show M - (j 1).val + ((j 1).val + 1) = (cube 1 R 1).numel by rw [window_numel]; omega,
    ← List.map_coe_finRange_eq_range, List.foldl_map]
  unfold Ideal.hostReduceWindowAdd Host.reduceWindow
  dsimp only
  refine List.foldl_ext _ _ _ fun r n _ => congrArg (fun t : EReal => r + t) ?_
  obtain ⟨w0, w1, w2⟩ := window_position n
  have hn : n.val < R := n.isLt.trans_eq (window_numel R)
  by_cases hle : M - (j 1).val ≤ n.val
  · rw [if_pos hle]
    refine (dif_pos fun a => ?_).trans ((congrArg A (funext fun a => Fin.ext ?_)).trans (column_of_lt A (j 0) (j 2) (show n.val - (M - (j 1).val) < R by omega)).symm)
    · match a with
      | ⟨0, _⟩ =>
        show 0 ≤ (j 0).val * 1 + ((cube 1 R 1).rowMajor.symm n 0).val ∧ (j 0).val * 1 + ((cube 1 R 1).rowMajor.symm n 0).val - 0 < B
        omega
      | ⟨1, _⟩ =>
        show M ≤ (j 1).val * 1 + ((cube 1 R 1).rowMajor.symm n 1).val ∧ (j 1).val * 1 + ((cube 1 R 1).rowMajor.symm n 1).val - M < R
        omega
      | ⟨2, _⟩ =>
        show 0 ≤ (j 2).val * 1 + ((cube 1 R 1).rowMajor.symm n 2).val ∧ (j 2).val * 1 + ((cube 1 R 1).rowMajor.symm n 2).val - 0 < C
        omega
    · match a with
      | ⟨0, _⟩ =>
        show (j 0).val * 1 + ((cube 1 R 1).rowMajor.symm n 0).val - 0 = (j 0).val
        omega
      | ⟨1, _⟩ =>
        show (j 1).val * 1 + ((cube 1 R 1).rowMajor.symm n 1).val - M = n.val - (M - (j 1).val)
        omega
      | ⟨2, _⟩ =>
        show (j 2).val * 1 + ((cube 1 R 1).rowMajor.symm n 2).val - 0 = (j 2).val
        omega
  · rw [if_neg hle]
    exact dif_neg fun hin => by
      have := (hin 1).1
      change M ≤ (j 1).val * 1 + ((cube 1 R 1).rowMajor.symm n 1).val at this
      rw [w1] at this
      omega

/-! ## The kernel's array -/

/-- Row `n` of batch `b`, in the array of four batches end to end, is the argument's. -/
theorem entry_rows (A : S4x4096x2048.Idx → Ideal .f32) (b : Fin 4) (c : Fin 2048) (n : ℕ) (hn : n < 4096) :
    entry (shapeCast S16384x2048 A shapeCasts_S4x4096x2048_S16384x2048) (4096 * b.val + n) c.val = column (B := 4) (R := 4096) (C := 2048) A b c n := by
  have hb := b.isLt
  have hc := c.isLt
  refine Eq.trans ?_ (column_of_lt (B := 4) (R := 4096) (C := 2048) A b c hn).symm
  refine shapeCast_apply A _ _ (ix3 b ⟨n, hn⟩ c) ?_
  rw [Shape.rowMajor_val_three, Shape.rowMajor_val_two]
  show (b.val * 4096 + n) * 2048 + c.val = (4096 * b.val + n) % 16384 * 2048 + c.val % 2048
  rw [Nat.mod_eq_of_lt (by omega), Nat.mod_eq_of_lt hc]
  omega

/-- The kernel's result is the reference's. -/
theorem sums_eq (A : S4x4096x2048.Idx → Ideal .f32)
    (h : (cube 4 4096 2048).ReduceWindows (![1, 4096, 1] : Fin 3 → Nat) ![1, 1, 1] ![0, 4095, 0] ![0, 0, 0] (cube 4 4096 2048)) :
    Ideal.hostReduceWindowAdd ![1, 4096, 1] ![1, 1, 1] ![0, 4095, 0] ![0, 0, 0] h A 0
      = shapeCast S4x4096x2048 (total (shapeCast S16384x2048 A shapeCasts_S4x4096x2048_S16384x2048)) shapeCasts_S16384x2048_S4x4096x2048 := by
  funext j
  have h0 : (j 0).val < 4 := (j 0).isLt
  have h1 : (j 1).val < 4096 := (j 1).isLt
  have h2 : (j 2).val < 2048 := (j 2).isLt
  refine (window_sum (B := 4) (C := 2048) (R := 4096) (M := 4095) rfl A h j).trans (Eq.symm ?_)
  refine (shapeCast_apply _ _ j (ix2 (n0 := 16384) (n1 := 2048) ⟨4096 * (j 0).val + (j 1).val, by omega⟩ ⟨(j 2).val, h2⟩) ?_).trans ?_
  · rw [Shape.rowMajor_val_three, Shape.rowMajor_val_two]
    show (4096 * (j 0).val + (j 1).val) * 2048 + (j 2).val = ((j 0).val * 4096 + (j 1).val) * 2048 + (j 2).val
    omega
  · show runSum (fun n => entry _ (4096 * ((4096 * (j 0).val + (j 1).val) / 4096) + n) (j 2).val) ((4096 * (j 0).val + (j 1).val) % 4096 + 1) = _
    rw [show (4096 * (j 0).val + (j 1).val) / 4096 = (j 0).val by omega, show (4096 * (j 0).val + (j 1).val) % 4096 = (j 1).val by omega]
    exact runSum_congr _ fun k hk => entry_rows A (j 0) (j 2) k (by omega)

/-! ## The reference as it is printed -/

theorem window_add {φ : FTy} {s t u : Shape} (w st lo hi : Fin s.rank → ℕ) (A : FVec Ideal s φ) (v : FVec Ideal u φ) (h : s.ReduceWindows w st lo hi t)
    (hu : 0 < u.numel) {z : EReal} (hz : v (Shape.Idx.first hu) = z) : Host.reduceWindowAdd w st lo hi A v h hu = Ideal.hostReduceWindowAdd w st lo hi h A z := by
  subst hz
  rfl

theorem reference_sums (A : FVec Ideal Cert.ReferenceIdeal.S4x4096x2048 .f32) :
    Host.reduceWindowAdd ![1, 4096, 1] ![1, 1, 1] ![0, 4095, 0] ![0, 0, 0] A
        (broadcastInDim Cert.ReferenceIdeal.S_ ![] Cert.ReferenceIdeal.Gen.bcast_S_S_ (constant Cert.ReferenceIdeal.S_ .f32 0x00000000#32))
        Cert.ReferenceIdeal.Gen.reduceWindows_S4x4096x2048_S4x4096x2048_w1s1p0_0_w4096s1p4095_0_w1s1p0_0 Cert.ReferenceIdeal.Gen.h_S_
      = shapeCast S4x4096x2048 (total (shapeCast S16384x2048 A shapeCasts_S4x4096x2048_S16384x2048)) shapeCasts_S16384x2048_S4x4096x2048 := by
  rw [window_add (hz := Ideal.ofBits_zero_f32)]
  exact sums_eq A _

end Cert.Proof.Cumsum

end
-- ==== Proof.lean ====
/-
  THE PROOF OF THE FIVE CLAIMS (UNTRUSTED).

  Proof/Launch.lean runs the kernel's program over any float values: the result holds the running sums `total` of the
  argument's rows, the argument is unchanged, every counter reads zero. The two frames of the kernel are that run, at the
  floats' words and at the extended reals (the program is the same text in both). The reference's frame is its generated
  run. No operation of the kernel was rewritten for the extended reals, so nothing is asked of the fourth claim. The last
  claim puts the two runs together; Proof/Equation.lean says that the two results are equal.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The kernel terminates without fault, leaves its argument alone, and every counter ends at zero. -/
theorem frame_kernel : Cert.quiescent_Kernel := fun m ρ _ =>
  (θ_run Cert.KernelIdeal.defs _ _).mono (fun _ h => ⟨fun d => (h.1 d).2, h.2⟩) (Cumsum.run (F := Bits) m ρ)

/-- The same over the extended reals. -/
theorem frame_ideal : Cert.quiescent_KernelIdeal := fun m ρ _ =>
  (θ_run Cert.KernelIdeal.defs _ _).mono (fun _ h => ⟨fun d => (h.1 d).2, h.2⟩) (Cumsum.run (F := Ideal) m ρ)

/-- The same of the reference. -/
theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

/-- Over the extended reals, from equal arguments, the kernel and the reference give one array. -/
theorem algebraic : Cert.algebraic_KernelIdeal_ReferenceIdeal := fun m ρ m' ρ' _ harg =>
  ⟨fun d => Cumsum.result m d,
    (θ_run Cert.KernelIdeal.defs _ _).mono (fun _ h d => h.1 d) (Cumsum.run (F := Ideal) m ρ),
    (θ_run Cert.ReferenceIdeal.defs _ _).mono
      (fun _ h d => ⟨(h d).1.trans ((Cumsum.reference_sums _).trans (congrArg (fun A : Cert.KernelIdeal.S4x4096x2048.Idx → Ideal .f32 =>
        shapeCast Cert.KernelIdeal.S4x4096x2048
          (Cumsum.total (shapeCast Cert.KernelIdeal.S16384x2048 A Cert.KernelIdeal.Gen.shapeCasts_S4x4096x2048_S16384x2048))
          Cert.KernelIdeal.Gen.shapeCasts_S16384x2048_S4x4096x2048) (harg d))), (h d).2⟩)
      (Cert.ReferenceIdeal.Value.run (F := Ideal) m' ρ')⟩

/-- All that the statement states. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
